-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x1024 : Shape := ⟨2, ![8192, 1024]⟩
abbrev S1024x256 : Shape := ⟨2, ![1024, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S64x64 : Shape := ⟨2, ![64, 64]⟩
abbrev S1 : Shape := ⟨1, ![1]⟩
abbrev S64x1 : Shape := ⟨2, ![64, 1]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S64x64 : S_.BroadcastsInDim S64x64 (![] : Fin 0 → Fin S64x64.rank)
  reducesTo_S64x64_S_d0_1 : S64x64.ReducesTo [0, 1] S_
  bcast_S_S1 : S_.BroadcastsInDim S1 (![] : Fin 0 → Fin S1.rank)
  reducesTo_S1_S_d0 : S1.ReducesTo [0] S_
  bcast_S_S64x1 : S_.BroadcastsInDim S64x1 (![] : Fin 0 → Fin S64x1.rank)
  reducesTo_S64x1_S_d0_1 : S64x1.ReducesTo [0, 1] S_

variable [Facts]

def fn_part5 {F : FTy → Type} [FloatOps F] (main_arg18 : FVec F S64x1 .f32) (main_arg19 : FVec F S1 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S64x1 .f32 := Host.absf main_arg18
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg14 : FVec F S64x64 .f32) (main_arg15 : FVec F S64 .f32) (main_arg16 : FVec F S64x1 .f32) (main_arg17 : FVec F S1 .f32) (main_arg18 : FVec F S64x1 .f32) (main_arg19 : FVec F S1 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x1 .f32 := Host.absf main_arg16
  let main_cst_30 : FVec F S_ .f32 := constant S_ .f32 0x7F800000#32
  let main_v80 : FVec F S64x1 .f32 := broadcastInDim S64x1 ![] bcast_S_S64x1 main_cst_30
  let main_v81 : IVec S64x1 1 := cmpf .olt main_v79 main_v80
  let main_c_31 : IVec S_ 1 := constantI S_ 1 1#1
  let main_v82 : IVec S_ 1 := (fun x v => Host.reduce IntOp.andi x v reducesTo_S64x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S64x64 .f32) (main_arg12 : FVec F S64 .f32) (main_arg13 : FVec F S1 .f32) (main_arg14 : FVec F S64x64 .f32) (main_arg15 : FVec F S64 .f32) (main_arg16 : FVec F S64x1 .f32) (main_arg17 : FVec F S1 .f32) (main_arg18 : FVec F S64x1 .f32) (main_arg19 : FVec F S1 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_arg16 main_arg17 main_arg18 main_arg19 main_v63 main_v67

def fn_part2 {F : FTy → Type} [FloatOps F] (main_arg7 : FVec F S64x8 .f32) (main_arg8 : FVec F S8 .f32) (main_arg9 : FVec F S64x8 .f32) (main_arg10 : FVec F S8 .f32) (main_arg11 : FVec F S64x64 .f32) (main_arg12 : FVec F S64 .f32) (main_arg13 : FVec F S1 .f32) (main_arg14 : FVec F S64x64 .f32) (main_arg15 : FVec F S64 .f32) (main_arg16 : FVec F S64x1 .f32) (main_arg17 : FVec F S1 .f32) (main_arg18 : FVec F S64x1 .f32) (main_arg19 : FVec F S1 .f32) (main_v33 : IVec S_ 1) : IVec S_ 1 :=
  let main_v34 : FVec F S64x8 .f32 := Host.absf main_arg7
  let main_cst_12 : FVec F S_ .f32 := constant S_ .f32 0x7F800000#32
  let main_v35 : FVec F S64x8 .f32 := broadcastInDim S64x8 ![] bcast_S_S64x8 main_cst_12
  let main_v36 : IVec S64x8 1 := cmpf .olt main_v34 main_v35
  let main_c_13 : IVec S_ 1 := constantI S_ 1 1#1
  let main_v37 : IVec S_ 1 := (fun x v => Host.reduce IntOp.andi x v reducesTo_S64x8_S_d0_1 h_S_) main_v36 main_c_13
  let main_v38 : IVec S_ 1 := andi main_v33 main_v37
  let main_v39 : FVec F S8 .f32 := Host.absf main_arg8
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  let main_v44 : FVec F S64x8 .f32 := Host.absf main_arg9
  let main_cst_16 : FVec F S_ .f32 := constant S_ .f32 0x7F800000#32
  let main_v45 : FVec F S64x8 .f32 := broadcastInDim S64x8 ![] bcast_S_S64x8 main_cst_16
  let main_v46 : IVec S64x8 1 := cmpf .olt main_v44 main_v45
  let main_c_17 : IVec S_ 1 := constantI S_ 1 1#1
  let main_v47 : IVec S_ 1 := (fun x v => Host.reduce IntOp.andi x v reducesTo_S64x8_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S128 .f32) (main_arg5 : FVec F S128x64 .f32) (main_arg6 : FVec F S64 .f32) (main_arg7 : FVec F S64x8 .f32) (main_arg8 : FVec F S8 .f32) (main_arg9 : FVec F S64x8 .f32) (main_arg10 : FVec F S8 .f32) (main_arg11 : FVec F S64x64 .f32) (main_arg12 : FVec F S64 .f32) (main_arg13 : FVec F S1 .f32) (main_arg14 : FVec F S64x64 .f32) (main_arg15 : FVec F S64 .f32) (main_arg16 : FVec F S64x1 .f32) (main_arg17 : FVec F S1 .f32) (main_arg18 : FVec F S64x1 .f32) (main_arg19 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S8192x1024 .f32) (main_arg1 : FVec F S1024x256 .f32) (main_arg2 : FVec F S256 .f32) (main_arg3 : FVec F S256x128 .f32) (main_arg4 : FVec F S128 .f32) (main_arg5 : FVec F S128x64 .f32) (main_arg6 : FVec F S64 .f32) (main_arg7 : FVec F S64x8 .f32) (main_arg8 : FVec F S8 .f32) (main_arg9 : FVec F S64x8 .f32) (main_arg10 : FVec F S8 .f32) (main_arg11 : FVec F S64x64 .f32) (main_arg12 : FVec F S64 .f32) (main_arg13 : FVec F S1 .f32) (main_arg14 : FVec F S64x64 .f32) (main_arg15 : FVec F S64 .f32) (main_arg16 : FVec F S64x1 .f32) (main_arg17 : FVec F S1 .f32) (main_arg18 : FVec F S64x1 .f32) (main_arg19 : FVec F S1 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S8192x1024 : Shape := ⟨2, ![8192, 1024]⟩
abbrev S1024x256 : Shape := ⟨2, ![1024, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S64x64 : Shape := ⟨2, ![64, 64]⟩
abbrev S1 : Shape := ⟨1, ![1]⟩
abbrev S64x1 : Shape := ⟨2, ![64, 1]⟩
abbrev S1x256 : Shape := ⟨2, ![1, 256]⟩
abbrev S1x128 : Shape := ⟨2, ![1, 128]⟩
abbrev S1x64 : Shape := ⟨2, ![1, 64]⟩
abbrev S1x8 : Shape := ⟨2, ![1, 8]⟩
abbrev S1x1 : Shape := ⟨2, ![1, 1]⟩
abbrev S1024x1024 : Shape := ⟨2, ![1024, 1024]⟩
abbrev S8192x64 : Shape := ⟨2, ![8192, 64]⟩
abbrev S72x8192 : Shape := ⟨2, ![72, 8192]⟩
abbrev S64x8192 : Shape := ⟨2, ![64, 8192]⟩
abbrev S1024x128 : Shape := ⟨2, ![1024, 128]⟩
abbrev S1024x64 : Shape := ⟨2, ![1024, 64]⟩
abbrev S64x1024 : Shape := ⟨2, ![64, 1024]⟩
abbrev S1x1024 : Shape := ⟨2, ![1, 1024]⟩
abbrev S7x1024 : Shape := ⟨2, ![7, 1024]⟩
abbrev S8x1024 : Shape := ⟨2, ![8, 1024]⟩
abbrev S72x1024 : Shape := ⟨2, ![72, 1024]⟩
abbrev S64x256 : Shape := ⟨2, ![64, 256]⟩
abbrev S512x64 : Shape := ⟨2, ![512, 64]⟩
abbrev S512x256 : Shape := ⟨2, ![512, 256]⟩
abbrev S72x512 : Shape := ⟨2, ![72, 512]⟩
abbrev S72x256 : Shape := ⟨2, ![72, 256]⟩
abbrev S1x8192 : Shape := ⟨2, ![1, 8192]⟩
abbrev S_ : Shape := ⟨0, ![]⟩

abbrev nBuf : Space → Nat
  | .hbm => 36
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x8, .f32⟩
  | .hbm, ⟨8, _⟩ => ⟨S8, .f32⟩
  | .hbm, ⟨9, _⟩ => ⟨S64x8, .f32⟩
  | .hbm, ⟨10, _⟩ => ⟨S8, .f32⟩
  | .hbm, ⟨11, _⟩ => ⟨S64x64, .f32⟩
  | .hbm, ⟨12, _⟩ => ⟨S64, .f32⟩
  | .hbm, ⟨13, _⟩ => ⟨S1, .f32⟩
  | .hbm, ⟨14, _⟩ => ⟨S64x64, .f32⟩
  | .hbm, ⟨15, _⟩ => ⟨S64, .f32⟩
  | .hbm, ⟨16, _⟩ => ⟨S64x1, .f32⟩
  | .hbm, ⟨17, _⟩ => ⟨S1, .f32⟩
  | .hbm, ⟨18, _⟩ => ⟨S64x1, .f32⟩
  | .hbm, ⟨19, _⟩ => ⟨S1, .f32⟩
  | .hbm, ⟨20, _⟩ => ⟨S1024x256, .bf16⟩
  | .hbm, ⟨21, _⟩ => ⟨S1x256, .f32⟩
  | .hbm, ⟨22, _⟩ => ⟨S256x128, .bf16⟩
  | .hbm, ⟨23, _⟩ => ⟨S1x128, .f32⟩
  | .hbm, ⟨24, _⟩ => ⟨S128x64, .bf16⟩
  | .hbm, ⟨25, _⟩ => ⟨S1x64, .f32⟩
  | .hbm, ⟨26, _⟩ => ⟨S1x8, .f32⟩
  | .hbm, ⟨27, _⟩ => ⟨S64x1, .f32⟩
  | .hbm, ⟨28, _⟩ => ⟨S1x1, .f32⟩
  | .hbm, ⟨29, _⟩ => ⟨S64x1, .f32⟩
  | .hbm, ⟨30, _⟩ => ⟨S1x1, .f32⟩
  | .hbm, ⟨31, _⟩ => ⟨S1x1, .f32⟩
  | .hbm, ⟨32, _⟩ => ⟨S1x1, .f32⟩
  | .hbm, ⟨33, _⟩ => ⟨S64x1, .f32⟩
  | .hbm, ⟨34, _⟩ => ⟨S_, .f32⟩
  | .hbm, ⟨35, _⟩ => ⟨S64, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1x256, .f32⟩
  | .local _ .vmem, ⟨4, _⟩ => ⟨S256x128, .bf16⟩
  | .local _ .vmem, ⟨5, _⟩ => ⟨S1x128, .f32⟩
  | .local _ .vmem, ⟨6, _⟩ => ⟨S128x64, .bf16⟩
  | .local _ .vmem, ⟨7, _⟩ => ⟨S1x64, .f32⟩
  | .local _ .vmem, ⟨8, _⟩ => ⟨S64x8, .f32⟩
  | .local _ .vmem, ⟨9, _⟩ => ⟨S64x8, .f32⟩
  | .local _ .vmem, ⟨10, _⟩ => ⟨S1x8, .f32⟩
  | .local _ .vmem, ⟨11, _⟩ => ⟨S64x64, .f32⟩
  | .local _ .vmem, ⟨12, _⟩ => ⟨S64x1, .f32⟩
  | .local _ .vmem, ⟨13, _⟩ => ⟨S1x1, .f32⟩
  | .local _ .vmem, ⟨14, _⟩ => ⟨S64x64, .f32⟩
  | .local _ .vmem, ⟨15, _⟩ => ⟨S64x1, .f32⟩
  | .local _ .vmem, ⟨16, _⟩ => ⟨S64x1, .f32⟩
  | .local _ .vmem, ⟨17, _⟩ => ⟨S1x1, .f32⟩
  | .local _ .vmem, ⟨18, _⟩ => ⟨S64x1, .f32⟩
  | .local _ .vmem, ⟨19, _⟩ => ⟨S1x1, .f32⟩
  | .local _ .vmem, ⟨20, _⟩ => ⟨S1x1, .f32⟩
  | .local _ .vmem, ⟨21, _⟩ => ⟨S64x1, .f32⟩
  | .local _ .vmem, ⟨22, _⟩ => ⟨S8192x64, .bf16⟩
  | .local _ .vmem, ⟨23, _⟩ => ⟨S72x8192, .bf16⟩
  | .local _ .vmem, ⟨24, _⟩ => ⟨S64x8192, .f32⟩
  | .local _ .vmem, ⟨25, _⟩ => ⟨S64x8192, .bf16⟩
  | .local _ .vmem, ⟨26, _⟩ => ⟨S72x8192, .f32⟩
  | .local _ .vmem, ⟨27, _⟩ => ⟨S64x8192, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12_0 : Ref sig .tc := ⟨.hbm, 32, rfl⟩
abbrev main_v12_1 : Ref sig .tc := ⟨.hbm, 33, rfl⟩
abbrev main_v13 : Ref sig .tc := ⟨.hbm, 34, rfl⟩
abbrev main_v14 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c1024_i32 : BitVec 32 := 1024#32
  let v43 : BitVec 32 := Scalar.muli arg0 c1024_i32
  v43
def k0_mult2 (i : grid0.Coords) : BitVec 32 :=
  let arg0 : BitVec 32 := BitVec.ofNat 32 (i 0).val
  let c1024_i32_22 : BitVec 32 := 1024#32
  let v45 : BitVec 32 := Scalar.muli arg0 c1024_i32_22
  v45
def k0_off1 (i : grid0.Coords) : Fin 2 → Nat :=
  let arg0 : BitVec 32 := BitVec.ofNat 32 (i 0).val
  let c1024_i32 : BitVec 32 := 1024#32
  let v43 : BitVec 32 := Scalar.muli arg0 c1024_i32
  let v44 : BitVec 32 := v43
  let v48 : Index := Scalar.indexCast v44
  let c0_23 : Index := 0#32
  ![v48.toNat, 0]
def k0_off2 (i : grid0.Coords) : Fin 2 → Nat :=
  let c0_26 : Index := 0#32
  let arg0 : BitVec 32 := BitVec.ofNat 32 (i 0).val
  let c1024_i32_22 : BitVec 32 := 1024#32
  let v45 : BitVec 32 := Scalar.muli arg0 c1024_i32_22
  let v46 : BitVec 32 := v45
  let v57 : Index := Scalar.indexCast v46
  ![0, v57.toNat]
def k0_off3 (i : grid0.Coords) : Fin 2 → Nat :=
  let c0_27 : Index := 0#32
  let arg0 : BitVec 32 := BitVec.ofNat 32 (i 0).val
  let c1024_i32_22 : BitVec 32 := 1024#32
  let v45 : BitVec 32 := Scalar.muli arg0 c1024_i32_22
  let v46 : BitVec 32 := v45
  let v61 : Index := Scalar.indexCast v46
  ![0, v61.toNat]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let c12_i32 : BitVec 32 := 12#32
  let v4 : BitVec 1 := Scalar.cmpi .slt arg0 c12_i32
  let v5 : BitVec 1 := Scalar.andi v3 v4
  let v6 : BitVec 32 := Scalar.extui v5
  let c0_i32_1 : BitVec 32 := 0#32
  let v7 : BitVec 1 := Scalar.cmpi .ne v6 c0_i32_1
  v7

def k0_mult3 (i : grid0.Coords) : BitVec 32 :=
  let arg0 : BitVec 32 := BitVec.ofNat 32 (i 0).val
  let c8_i32_4 : BitVec 32 := 8#32
  let v11 : BitVec 32 := Scalar.subi arg0 c8_i32_4
  let c2048_i32 : BitVec 32 := 2048#32
  let v12 : BitVec 32 := Scalar.muli v11 c2048_i32
  v12
def k0_off4 (i : grid0.Coords) (c0_i32_5 : BitVec 32) : Fin 2 → Nat :=
  let c0 : Index := 0#32
  let arg0 : BitVec 32 := BitVec.ofNat 32 (i 0).val
  let c8_i32_4 : BitVec 32 := 8#32
  let v11 : BitVec 32 := Scalar.subi arg0 c8_i32_4
  let c2048_i32 : BitVec 32 := 2048#32
  let v12 : BitVec 32 := Scalar.muli v11 c2048_i32
  let v13 : BitVec 32 := v12
  let v14 : BitVec 32 := Scalar.addi v13 c0_i32_5
  let v15 : Index := Scalar.indexCast v14
  ![0, v15.toNat]
def k0_off5 (i : grid0.Coords) (c0_i32_765 : BitVec 32) : Fin 2 → Nat :=
  let c0_766 : Index := 0#32
  let arg0 : BitVec 32 := BitVec.ofNat 32 (i 0).val
  let c8_i32_4 : BitVec 32 := 8#32
  let v11 : BitVec 32 := Scalar.subi arg0 c8_i32_4
  let c2048_i32 : BitVec 32 := 2048#32
  let v12 : BitVec 32 := Scalar.muli v11 c2048_i32
  let v13 : BitVec 32 := v12
  let v926 : BitVec 32 := Scalar.addi v13 c0_i32_765
  let v927 : Index := Scalar.indexCast v926
  ![0, v927.toNat]
def k0_cond3 (i : grid0.Coords) : BitVec 1 :=
  let arg0 : BitVec 32 := BitVec.ofNat 32 (i 0).val
  let c12_i32_2 : BitVec 32 := 12#32
  let v8 : BitVec 1 := Scalar.cmpi .eq arg0 c12_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S8192x1024 : Shape := ⟨2, ![8192, 1024]⟩
abbrev S1024x256 : Shape := ⟨2, ![1024, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S64x64 : Shape := ⟨2, ![64, 64]⟩
abbrev S1 : Shape := ⟨1, ![1]⟩
abbrev S64x1 : Shape := ⟨2, ![64, 1]⟩
abbrev S8192x256 : Shape := ⟨2, ![8192, 256]⟩
abbrev S1x256 : Shape := ⟨2, ![1, 256]⟩
abbrev S_ : Shape := ⟨0, ![]⟩
abbrev S8192x128 : Shape := ⟨2, ![8192, 128]⟩
abbrev S1x128 : Shape := ⟨2, ![1, 128]⟩
abbrev S8192x64 : Shape := ⟨2, ![8192, 64]⟩
abbrev S1x64 : Shape := ⟨2, ![1, 64]⟩
abbrev S8192x8 : Shape := ⟨2, ![8192, 8]⟩
abbrev S1x8 : Shape := ⟨2, ![1, 8]⟩
abbrev S8x8192 : Shape := ⟨2, ![8, 8192]⟩
abbrev S8192x8192 : Shape := ⟨2, ![8192, 8192]⟩
abbrev S8192 : Shape := ⟨1, ![8192]⟩
abbrev S8192x1 : Shape := ⟨2, ![8192, 1]⟩
abbrev S1x1 : Shape := ⟨2, ![1, 1]⟩

abbrev nBuf : Space → Nat
  | .hbm => 115
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x8, .f32⟩
  | .hbm, ⟨8, _⟩ => ⟨S8, .f32⟩
  | .hbm, ⟨9, _⟩ => ⟨S64x8, .f32⟩
  | .hbm, ⟨10, _⟩ => ⟨S8, .f32⟩
  | .hbm, ⟨11, _⟩ => ⟨S64x64, .f32⟩
  | .hbm, ⟨12, _⟩ => ⟨S64, .f32⟩
  | .hbm, ⟨13, _⟩ => ⟨S1, .f32⟩
  | .hbm, ⟨14, _⟩ => ⟨S64x64, .f32⟩
  | .hbm, ⟨15, _⟩ => ⟨S64, .f32⟩
  | .hbm, ⟨16, _⟩ => ⟨S64x1, .f32⟩
  | .hbm, ⟨17, _⟩ => ⟨S1, .f32⟩
  | .hbm, ⟨18, _⟩ => ⟨S64x1, .f32⟩
  | .hbm, ⟨19, _⟩ => ⟨S1, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192x256, .f32⟩
  | .hbm, ⟨26, _⟩ => ⟨S8192x256, .f32⟩
  | .hbm, ⟨27, _⟩ => ⟨S8192x128, .f32⟩
  | .hbm, ⟨28, _⟩ => ⟨S1x128, .f32⟩
  | .hbm, ⟨29, _⟩ => ⟨S8192x128, .f32⟩
  | .hbm, ⟨30, _⟩ => ⟨S8192x128, .f32⟩
  | .hbm, ⟨31, _⟩ => ⟨S_, .f32⟩
  | .hbm, ⟨32, _⟩ => ⟨S8192x128, .f32⟩
  | .hbm, ⟨33, _⟩ => ⟨S8192x128, .f32⟩
  | .hbm, ⟨34, _⟩ => ⟨S8192x64, .f32⟩
  | .hbm, ⟨35, _⟩ => ⟨S1x64, .f32⟩
  | .hbm, ⟨36, _⟩ => ⟨S8192x64, .f32⟩
  | .hbm, ⟨37, _⟩ => ⟨S8192x64, .f32⟩
  | .hbm, ⟨38, _⟩ => ⟨S_, .f32⟩
  | .hbm, ⟨39, _⟩ => ⟨S8192x64, .f32⟩
  | .hbm, ⟨40, _⟩ => ⟨S8192x64, .f32⟩
  | .hbm, ⟨41, _⟩ => ⟨S8192x8, .f32⟩
  | .hbm, ⟨42, _⟩ => ⟨S1x8, .f32⟩
  | .hbm, ⟨43, _⟩ => ⟨S8192x8, .f32⟩
  | .hbm, ⟨44, _⟩ => ⟨S8192x8, .f32⟩
  | .hbm, ⟨45, _⟩ => ⟨S8192x8, .f32⟩
  | .hbm, ⟨46, _⟩ => ⟨S1x8, .f32⟩
  | .hbm, ⟨47, _⟩ => ⟨S8192x8, .f32⟩
  | .hbm, ⟨48, _⟩ => ⟨S8192x8, .f32⟩
  | .hbm, ⟨49, _⟩ => ⟨S8192x64, .f32⟩
  | .hbm, ⟨50, _⟩ => ⟨S1x64, .f32⟩
  | .hbm, ⟨51, _⟩ => ⟨S8192x64, .f32⟩
  | .hbm, ⟨52, _⟩ => ⟨S8192x64, .f32⟩
  | .hbm, ⟨53, _⟩ => ⟨S8x8192, .f32⟩
  | .hbm, ⟨54, _⟩ => ⟨S8192x8192, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192x1, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x8192, .f32⟩
  | .hbm, ⟨68, _⟩ => ⟨S8192x8192, .f32⟩
  | .hbm, ⟨69, _⟩ => ⟨S_, .f32⟩
  | .hbm, ⟨70, _⟩ => ⟨S8192x64, .f32⟩
  | .hbm, ⟨71, _⟩ => ⟨S8192x64, .f32⟩
  | .hbm, ⟨72, _⟩ => ⟨S8192x64, .f32⟩
  | .hbm, ⟨73, _⟩ => ⟨S8192x64, .f32⟩
  | .hbm, ⟨74, _⟩ => ⟨S8192x64, .f32⟩
  | .hbm, ⟨75, _⟩ => ⟨S1x64, .f32⟩
  | .hbm, ⟨76, _⟩ => ⟨S8192x64, .f32⟩
  | .hbm, ⟨77, _⟩ => ⟨S8192x64, .f32⟩
  | .hbm, ⟨78, _⟩ => ⟨S8192x64, .f32⟩
  | .hbm, ⟨79, _⟩ => ⟨S8192x1, .f32⟩
  | .hbm, ⟨80, _⟩ => ⟨S1x1, .f32⟩
  | .hbm, ⟨81, _⟩ => ⟨S8192x1, .f32⟩
  | .hbm, ⟨82, _⟩ => ⟨S8192x1, .f32⟩
  | .hbm, ⟨83, _⟩ => ⟨S8192, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S1, .f32⟩
  | .hbm, ⟨89, _⟩ => ⟨S8192, .f32⟩
  | .hbm, ⟨90, _⟩ => ⟨S8192, .f32⟩
  | .hbm, ⟨91, _⟩ => ⟨S8192, .f32⟩
  | .hbm, ⟨92, _⟩ => ⟨S_, .f32⟩
  | .hbm, ⟨93, _⟩ => ⟨S_, .f32⟩
  | .hbm, ⟨94, _⟩ => ⟨S1, .f32⟩
  | .hbm, ⟨95, _⟩ => ⟨S8192, .f32⟩
  | .hbm, ⟨96, _⟩ => ⟨S8192, .f32⟩
  | .hbm, ⟨97, _⟩ => ⟨S64, .f32⟩
  | .hbm, ⟨98, _⟩ => ⟨S1, .f32⟩
  | .hbm, ⟨99, _⟩ => ⟨S1, .f32⟩
  | .hbm, ⟨100, _⟩ => ⟨S1, .f32⟩
  | .hbm, ⟨101, _⟩ => ⟨S1, .f32⟩
  | .hbm, ⟨102, _⟩ => ⟨S_, .f32⟩
  | .hbm, ⟨103, _⟩ => ⟨S1, .f32⟩
  | .hbm, ⟨104, _⟩ => ⟨S1, .f32⟩
  | .hbm, ⟨105, _⟩ => ⟨S_, .f32⟩
  | .hbm, ⟨106, _⟩ => ⟨S1, .f32⟩
  | .hbm, ⟨107, _⟩ => ⟨S1, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_call0_cst : Ref sig .tc := ⟨.hbm, 24, rfl⟩
abbrev main_call0_v0 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call1_cst : Ref sig .tc := ⟨.hbm, 31, rfl⟩
abbrev main_call1_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_call2_cst : Ref sig .tc := ⟨.hbm, 38, rfl⟩
abbrev main_call2_v0 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst : Ref sig .tc := ⟨.hbm, 55, rfl⟩
abbrev main_v29 : Ref sig .tc := ⟨.hbm, 56, rfl⟩
abbrev main_cst_0 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_1 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_2 : Ref sig .tc := ⟨.hbm, 84, rfl⟩
abbrev main_v55 : Ref sig .tc := ⟨.hbm, 85, rfl⟩
abbrev main_cst_3 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_4 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_5 : Ref sig .tc := ⟨.hbm, 102, rfl⟩
abbrev main_v70 : Ref sig .tc := ⟨.hbm, 103, rfl⟩
abbrev main_v71 : Ref sig .tc := ⟨.hbm, 104, rfl⟩
abbrev main_cst_6 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_7 : Ref sig .tc := ⟨.hbm, 109, rfl⟩
abbrev main_cst_8 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_v75 : Ref sig .tc := ⟨.hbm, 114, rfl⟩

abbrev nD : Nat := 1
abbrev τ : Topo := Topo.v7x

variable {F : FTy → Type} [FloatOps F]
-- ==== Proof.Steps.lean ====
/-
  The attention phase of the kernel's body.  A step of it holds four scratch arrays: it reads the feature rows, the
  transposed features and the projected queries, and puts eight column tiles into the fourth.  `Does` says what a program
  run from one holding yields and leaves; the phase is followed by its rules, load by load.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Run from the holding `P`, the program `p` yields `v` and leaves the holding `P'`. -/
def Does (c : Dev nD) {α : Type} (P : sProp 𝕄) (p : Prog (TpuEff nD τ sig (Elt F) Λ₀ .tc) α) (v : α) (P' : sProp 𝕄) : Prop :=
  ∀ Q : α → sProp 𝕄, iprop(P ∗ (P' -∗ Q v)) ⊢ wp frame (wpE (defs₀ (F := F)) Variants.none c none) Set.univ p Q

/-- A program that only returns leaves what it holds. -/
theorem Does.pure {c : Dev nD} {α : Type} {P : sProp 𝕄} {v : α} : Does (F := F) c P (Pure.pure v) v P := fun Q => by
  rw [wp_pure]
  iintro ⟨H, K⟩
  imodintro
  iapply K
  iexact H

/-- Two programs in sequence: the second starts from what the first yields and leaves. -/
theorem Does.bind {c : Dev nD} {α β : Type} {P P' P'' : sProp 𝕄} {p : Prog (TpuEff nD τ sig (Elt F) Λ₀ .tc) α} {v : α}
    {k : α → Prog (TpuEff nD τ sig (Elt F) Λ₀ .tc) β} {w : β} (h : Does (F := F) c P p v P') (h' : Does (F := F) c P' (k v) w P'') :
    Does (F := F) c P (p >>= k) w P'' := fun Q => by
  rw [wp_bind]
  refine BIBase.Entails.trans ?_ (h _)
  iintro ⟨H, K⟩
  isplitl [H]
  · iexact H
  · iintro H'
    iapply (h' Q)
    isplitl [H']
    · iexact H'
    · iexact K

/-- A branch taken. -/
theorem Does.pos {c : Dev nD} {α : Type} {P P' : sProp 𝕄} {d : Prop} [Decidable d] (hd : d)
    {p : d → Prog (TpuEff nD τ sig (Elt F) Λ₀ .tc) α} {p' : ¬ d → Prog (TpuEff nD τ sig (Elt F) Λ₀ .tc) α} {v : α}
    (h : Does (F := F) c P (p hd) v P') : Does (F := F) c P (dite d p p') v P' := by rwa [dif_pos hd]

/-- A branch passed over. -/
theorem Does.neg {c : Dev nD} {α : Type} {P P' : sProp 𝕄} {d : Prop} [Decidable d] (hd : ¬ d)
    {p : d → Prog (TpuEff nD τ sig (Elt F) Λ₀ .tc) α} {p' : ¬ d → Prog (TpuEff nD τ sig (Elt F) Λ₀ .tc) α} {v : α}
    (h : Does (F := F) c P (p' hd) v P') : Does (F := F) c P (dite d p p') v P' := by rwa [dif_neg hd]

/-- Loading a window of an array held whole yields that window of its contents. -/
theorem does_load {c : Dev nD} {sp : CoreSpace} {S : Shape} {e : EltTy} (M : Memref sig .tc sp S e) (X : S.Idx → Elt F e)
    {off size : Fin S.rank → ℕ} {inb : ∀ a, off a + size a ≤ S.size a} {hl : M.view.LoadsAt (Rect.unit off size inb).toLoadRect}
    {P R : sProp 𝕄} (h1 : P ⊢ iprop(owns (c : Thread nD τ) M fullShare X ∗ R)) (h2 : iprop(owns (c : Thread nD τ) M fullShare X ∗ R) ⊢ P) :
    Does (F := F) c P (Prog.lift (.load M (Rect.unit off size inb).toLoadRect hl)) (VecWindow.window X off size inb) P := fun Q => by
  refine BIBase.Entails.trans (sep_mono_left h1) ?_
  unfold owns Prog.lift
  iintro ⟨⟨⟨%f, %e, H⟩, HR⟩, K⟩
  sl_step
  have r := (View.readAt_unit M.view f inb rfl inb).trans (congrArg (fun z => VecWindow.window z off size inb) e)
  rw [r]
  sl_step
  iapply K
  iapply h2
  isplitl [H]
  · unfold owns; iexists _; isplitr; swap; · iexact H
    ipureintro; exact e
  · iexact HR

/-- Storing a window into an array held whole puts the stored vector over that window of its contents. -/
theorem does_store {c : Dev nD} {sp : CoreSpace} {S : Shape} {e : EltTy} (M : Memref sig .tc sp S e) (X : S.Idx → Elt F e)
    {off size : Fin S.rank → ℕ} {inb : ∀ a, off a + size a ≤ S.size a} {w : (Rect.unit off size inb).shape.Idx → Elt F e}
    {hx : (M.access (Rect.unit off size inb)).Stores Finset.univ} {hm}
    {P P' R : sProp 𝕄} (h1 : P ⊢ iprop(owns (c : Thread nD τ) M fullShare X ∗ R))
    (h2 : iprop(owns (c : Thread nD τ) M fullShare (VecWindow.put X off size w) ∗ R) ⊢ P') :
    Does (F := F) c P (Prog.lift (.store M (Rect.unit off size inb) w Finset.univ hx hm)) ⟨⟩ P' := fun Q => by
  refine BIBase.Entails.trans (sep_mono_left h1) ?_
  unfold owns Prog.lift
  iintro ⟨⟨⟨%f, %e, H⟩, HR⟩, K⟩
  sl_step
  sl_step
  iapply K
  iapply h2
  isplitl [H]
  · unfold owns; iexists _; isplitr; swap; · iexact H
    ipureintro; subst e; exact View.read_writes_cons_put M.view f inb w [] rfl
  · iexact HR

end Cert.KernelIdeal.Hand
-- ==== Proof.Attention.lean ====
/-
  The attention phase of the kernel's body: what one step of it leaves in the fourth scratch array.
-/
module

public import proofs.«01_k».proof.Proof.Steps
public import proofs.«01_k».proof.Proof.Gen.KernelIdeal.Frame
public import Idealize.ShloMosaic.Lib.Pipeline.Value
public import proofs.«01_k».proof.Proof.Gen.KernelIdeal.Skeleton
public import Idealize.ShloMosaic.Lib.Pipeline.Frame
public import Idealize.ShloMosaic.Lib.Tactic
public import Idealize.ShloMosaic.Lib.VecWindow

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The rows of the feature array that make up key chunk `r`. -/
def keyRows (X22 : S8192x64.Idx → Elt F .bf16) (r : Fin 16) : S512x64.Idx → Elt F .bf16 :=
  VecWindow.window X22 ![512 * r.val, 0] S512x64.size (by decide +kernel +revert)

/-- The columns of the transposed feature array that make up key chunk `r`. -/
def keyCols (X23 : S72x8192.Idx → Elt F .bf16) (r : Fin 16) : S72x512.Idx → Elt F .bf16 :=
  VecWindow.window X23 ![0, 512 * r.val] S72x512.size (by decide +kernel +revert)

/-- What key chunk `r` adds to a tile of columns: the transposed features times the powers of two of the scores. -/
def attPart (X22 : S8192x64.Idx → Elt F .bf16) (X23 : S72x8192.Idx → Elt F .bf16) (ft : S64x256.Idx → Elt F .bf16) (r : Fin 16) :
    FVec F S72x256 .f32 :=
  matmul dot_S72x512_S512x256_S72x256_1_0_0_1_n_n none (keyCols X23 r : FVec F S72x512 .bf16)
    (truncf .bf16 (exp2 (matmul dot_S512x64_S64x256_S512x256_1_0_0_1_n_n none (keyRows X22 r : FVec F S512x64 .bf16)
      (ft : FVec F S64x256 .bf16) (constant S512x256 .f32 0x00000000#32))) bitsLt_bf16_f32)
    (constant S72x256 .f32 0x00000000#32)

/-- The sum over the key chunks up to chunk `n`, added in the kernel's order. -/
def attSum (X22 : S8192x64.Idx → Elt F .bf16) (X23 : S72x8192.Idx → Elt F .bf16) (ft : S64x256.Idx → Elt F .bf16) :
    (n : ℕ) → n < 16 → FVec F S72x256 .f32
  | 0, h => attPart X22 X23 ft ⟨0, h⟩
  | n + 1, h => addf (attSum X22 X23 ft n (Nat.lt_of_succ_lt h)) (attPart X22 X23 ft ⟨n + 1, h⟩)

/-- One tile of 256 columns of the attention sums, from the projected queries of the tile. -/
def attTile (X22 : S8192x64.Idx → Elt F .bf16) (X23 : S72x8192.Idx → Elt F .bf16) (ft : S64x256.Idx → Elt F .bf16) : FVec F S72x256 .f32 :=
  attSum X22 X23 ft 15 (by decide)

/-- The contents of the fourth array after an attention step: its old contents with eight tiles put over them. -/
def attPut (i : grid0.Coords) (h2 : k0_cond2 i = 1#1) (X22 : S8192x64.Idx → Elt F .bf16) (X23 : S72x8192.Idx → Elt F .bf16)
    (X25 : S64x8192.Idx → Elt F .bf16) (X26 : S72x8192.Idx → Elt F .f32) : S72x8192.Idx → Elt F .f32 :=
  VecWindow.put (VecWindow.put (VecWindow.put (VecWindow.put (VecWindow.put (VecWindow.put (VecWindow.put (VecWindow.put X26 (k0_off5 i 0#32) S72x256.size (attTile X22 X23 (VecWindow.window X25 (k0_off4 i 0#32) S64x256.size (k0_off4_inb i h2 0)))) (k0_off5 i 256#32) S72x256.size (attTile X22 X23 (VecWindow.window X25 (k0_off4 i 256#32) S64x256.size (k0_off4_inb i h2 1)))) (k0_off5 i 512#32) S72x256.size (attTile X22 X23 (VecWindow.window X25 (k0_off4 i 512#32) S64x256.size (k0_off4_inb i h2 2)))) (k0_off5 i 768#32) S72x256.size (attTile X22 X23 (VecWindow.window X25 (k0_off4 i 768#32) S64x256.size (k0_off4_inb i h2 3)))) (k0_off5 i 1024#32) S72x256.size (attTile X22 X23 (VecWindow.window X25 (k0_off4 i 1024#32) S64x256.size (k0_off4_inb i h2 4)))) (k0_off5 i 1280#32) S72x256.size (attTile X22 X23 (VecWindow.window X25 (k0_off4 i 1280#32) S64x256.size (k0_off4_inb i h2 5)))) (k0_off5 i 1536#32) S72x256.size (attTile X22 X23 (VecWindow.window X25 (k0_off4 i 1536#32) S64x256.size (k0_off4_inb i h2 6)))) (k0_off5 i 1792#32) S72x256.size (attTile X22 X23 (VecWindow.window X25 (k0_off4 i 1792#32) S64x256.size (k0_off4_inb i h2 7)))

/-- The four arrays an attention step holds, at their contents. -/
def At (c : Dev nD) (arg22 : Memref sig .tc .vmem S8192x64 .bf16) (arg23 : Memref sig .tc .vmem S72x8192 .bf16)
    (arg25 : Memref sig .tc .vmem S64x8192 .bf16) (arg26 : Memref sig .tc .vmem S72x8192 .f32)
    (X22 : S8192x64.Idx → Elt F .bf16) (X23 : S72x8192.Idx → Elt F .bf16) (X25 : S64x8192.Idx → Elt F .bf16)
    (X26 : S72x8192.Idx → Elt F .f32) : sProp 𝕄 :=
  iprop(owns (c : Thread nD τ) arg22 fullShare X22 ∗ owns (c : Thread nD τ) arg23 fullShare X23 ∗
    owns (c : Thread nD τ) arg25 fullShare X25 ∗ owns (c : Thread nD τ) arg26 fullShare X26)

/-- Equal vectors put over equal contents. -/
theorem put_congr {S : Shape} {α : Type} {x x' : S.Idx → α} {off size : Fin S.rank → ℕ} {w w' : ((a : Fin S.rank) → Fin (size a)) → α}
    (hx : x = x') (hw : w = w') : VecWindow.put x off size w = VecWindow.put x' off size w' := by rw [hx, hw]

section
variable {c : Dev nD} {arg22 : Memref sig .tc .vmem S8192x64 .bf16} {arg23 : Memref sig .tc .vmem S72x8192 .bf16}
  {arg25 : Memref sig .tc .vmem S64x8192 .bf16} {arg26 : Memref sig .tc .vmem S72x8192 .f32}
  {X22 : S8192x64.Idx → Elt F .bf16} {X23 : S72x8192.Idx → Elt F .bf16} {X25 : S64x8192.Idx → Elt F .bf16}
  {X26 : S72x8192.Idx → Elt F .f32}

/-- A load of the feature rows. -/
theorem At.load22 {off size : Fin S8192x64.rank → ℕ} {inb : ∀ a, off a + size a ≤ S8192x64.size a} {hl : arg22.view.LoadsAt (Rect.unit off size inb).toLoadRect} :
    Does (F := F) c (At c arg22 arg23 arg25 arg26 X22 X23 X25 X26) (Prog.lift (.load arg22 (Rect.unit off size inb).toLoadRect hl))
      (VecWindow.window X22 off size inb) (At c arg22 arg23 arg25 arg26 X22 X23 X25 X26) :=
  does_load arg22 X22 .rfl .rfl

/-- A load of the transposed features. -/
theorem At.load23 {off size : Fin S72x8192.rank → ℕ} {inb : ∀ a, off a + size a ≤ S72x8192.size a} {hl : arg23.view.LoadsAt (Rect.unit off size inb).toLoadRect} :
    Does (F := F) c (At c arg22 arg23 arg25 arg26 X22 X23 X25 X26) (Prog.lift (.load arg23 (Rect.unit off size inb).toLoadRect hl))
      (VecWindow.window X23 off size inb) (At c arg22 arg23 arg25 arg26 X22 X23 X25 X26) := by
  refine does_load arg23 X23 (R := iprop(owns (c : Thread nD τ) arg22 fullShare X22 ∗
    owns (c : Thread nD τ) arg25 fullShare X25 ∗ owns (c : Thread nD τ) arg26 fullShare X26)) ?_ ?_ <;> unfold At
  · iintro ⟨A, B, C⟩; isplitl [B]; · iexact B
    isplitl [A]; · iexact A
    iexact C
  · iintro ⟨A, B, C⟩; isplitl [B]; · iexact B
    isplitl [A]; · iexact A
    iexact C

/-- A load of the projected queries. -/
theorem At.load25 {off size : Fin S64x8192.rank → ℕ} {inb : ∀ a, off a + size a ≤ S64x8192.size a} {hl : arg25.view.LoadsAt (Rect.unit off size inb).toLoadRect} :
    Does (F := F) c (At c arg22 arg23 arg25 arg26 X22 X23 X25 X26) (Prog.lift (.load arg25 (Rect.unit off size inb).toLoadRect hl))
      (VecWindow.window X25 off size inb) (At c arg22 arg23 arg25 arg26 X22 X23 X25 X26) := by
  refine does_load arg25 X25 (R := iprop(owns (c : Thread nD τ) arg22 fullShare X22 ∗
    owns (c : Thread nD τ) arg23 fullShare X23 ∗ owns (c : Thread nD τ) arg26 fullShare X26)) ?_ ?_ <;> unfold At
  · iintro ⟨A, B, C, D⟩; isplitl [C]; · iexact C
    isplitl [A]; · iexact A
    isplitl [B]; · iexact B
    iexact D
  · iintro ⟨C, A, B, D⟩; isplitl [A]; · iexact A
    isplitl [B]; · iexact B
    isplitl [C]; · iexact C
    iexact D

/-- A load of the sums. -/
theorem At.load26 {off size : Fin S72x8192.rank → ℕ} {inb : ∀ a, off a + size a ≤ S72x8192.size a} {hl : arg26.view.LoadsAt (Rect.unit off size inb).toLoadRect} :
    Does (F := F) c (At c arg22 arg23 arg25 arg26 X22 X23 X25 X26) (Prog.lift (.load arg26 (Rect.unit off size inb).toLoadRect hl))
      (VecWindow.window X26 off size inb) (At c arg22 arg23 arg25 arg26 X22 X23 X25 X26) := by
  refine does_load arg26 X26 (R := iprop(owns (c : Thread nD τ) arg22 fullShare X22 ∗
    owns (c : Thread nD τ) arg23 fullShare X23 ∗ owns (c : Thread nD τ) arg25 fullShare X25)) ?_ ?_ <;> unfold At
  · iintro ⟨A, B, C, D⟩; isplitl [D]; · iexact D
    isplitl [A]; · iexact A
    isplitl [B]; · iexact B
    iexact C
  · iintro ⟨D, A, B, C⟩; isplitl [A]; · iexact A
    isplitl [B]; · iexact B
    isplitl [C]; · iexact C
    iexact D

/-- A store over the sums. -/
theorem At.store26 {off size : Fin S72x8192.rank → ℕ} {inb : ∀ a, off a + size a ≤ S72x8192.size a} {w : (Rect.unit off size inb).shape.Idx → Elt F .f32}
    {hx : (arg26.access (Rect.unit off size inb)).Stores Finset.univ} {hm} :
    Does (F := F) c (At c arg22 arg23 arg25 arg26 X22 X23 X25 X26) (Prog.lift (.store arg26 (Rect.unit off size inb) w Finset.univ hx hm))
      ⟨⟩ (At c arg22 arg23 arg25 arg26 X22 X23 X25 (VecWindow.put X26 off size w)) := by
  refine does_store arg26 X26 (R := iprop(owns (c : Thread nD τ) arg22 fullShare X22 ∗
    owns (c : Thread nD τ) arg23 fullShare X23 ∗ owns (c : Thread nD τ) arg25 fullShare X25)) ?_ ?_ <;> unfold At
  · iintro ⟨A, B, C, D⟩; isplitl [D]; · iexact D
    isplitl [A]; · iexact A
    isplitl [B]; · iexact B
    iexact C
  · iintro ⟨D, A, B, C⟩; isplitl [A]; · iexact A
    isplitl [B]; · iexact B
    isplitl [C]; · iexact C
    iexact D

end

/-- The second phase, at a step that works on 2048 query columns: the step puts eight tiles of attention sums over them. -/
theorem runAtt (c : Dev nD) (i : grid0.Coords) (h1 : ¬ k0_cond1 i = 1#1) (h2 : k0_cond2 i = 1#1) (h3 : ¬ k0_cond3 i = 1#1)
  (arg1 : Memref sig .tc .vmem S1024x1024 .f32) (harg1 : arg1.IsWhole)
  (arg2 : Memref sig .tc .vmem S1024x256 .bf16) (harg2 : arg2.IsWhole)
  (arg3 : Memref sig .tc .vmem S1x256 .f32) (harg3 : arg3.IsWhole)
  (arg4 : Memref sig .tc .vmem S256x128 .bf16) (harg4 : arg4.IsWhole)
  (arg5 : Memref sig .tc .vmem S1x128 .f32) (harg5 : arg5.IsWhole)
  (arg6 : Memref sig .tc .vmem S128x64 .bf16) (harg6 : arg6.IsWhole)
  (arg7 : Memref sig .tc .vmem S1x64 .f32) (harg7 : arg7.IsWhole)
  (arg8 : Memref sig .tc .vmem S64x8 .f32) (harg8 : arg8.IsWhole)
  (arg9 : Memref sig .tc .vmem S64x8 .f32) (harg9 : arg9.IsWhole)
  (arg10 : Memref sig .tc .vmem S1x8 .f32) (harg10 : arg10.IsWhole)
  (arg11 : Memref sig .tc .vmem S64x64 .f32) (harg11 : arg11.IsWhole)
  (arg12 : Memref sig .tc .vmem S64x1 .f32) (harg12 : arg12.IsWhole)
  (arg13 : Memref sig .tc .vmem S1x1 .f32) (harg13 : arg13.IsWhole)
  (arg14 : Memref sig .tc .vmem S64x64 .f32) (harg14 : arg14.IsWhole)
  (arg15 : Memref sig .tc .vmem S64x1 .f32) (harg15 : arg15.IsWhole)
  (arg16 : Memref sig .tc .vmem S64x1 .f32) (harg16 : arg16.IsWhole)
  (arg17 : Memref sig .tc .vmem S1x1 .f32) (harg17 : arg17.IsWhole)
  (arg18 : Memref sig .tc .vmem S64x1 .f32) (harg18 : arg18.IsWhole)
  (arg19 : Memref sig .tc .vmem S1x1 .f32) (harg19 : arg19.IsWhole)
  (arg20 : Memref sig .tc .vmem S1x1 .f32) (harg20 : arg20.IsWhole)
  (arg21 : Memref sig .tc .vmem S64x1 .f32) (harg21 : arg21.IsWhole)
  (arg22 : Memref sig .tc .vmem S8192x64 .bf16) (harg22 : arg22.IsWhole)
  (arg23 : Memref sig .tc .vmem S72x8192 .bf16) (harg23 : arg23.IsWhole)
  (arg24 : Memref sig .tc .vmem S64x8192 .f32) (harg24 : arg24.IsWhole)
  (arg25 : Memref sig .tc .vmem S64x8192 .bf16) (harg25 : arg25.IsWhole)
  (arg26 : Memref sig .tc .vmem S72x8192 .f32) (harg26 : arg26.IsWhole)
  (arg27 : Memref sig .tc .vmem S64x8192 .f32) (harg27 : arg27.IsWhole)
  (X22 : S8192x64.Idx → Elt F .bf16) (X23 : S72x8192.Idx → Elt F .bf16) (X25 : S64x8192.Idx → Elt F .bf16)
  (X26 : S72x8192.Idx → Elt F .f32) :
  Does (F := F) c (At c arg22 arg23 arg25 arg26 X22 X23 X25 X26)
    (cc0_sa_abmilp_fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) ⟨⟩
    (At c arg22 arg23 arg25 arg26 X22 X23 X25 (attPut i h2 X22 X23 X25 X26)) := by
  have run : ∃ Z, Does (F := F) c (At c arg22 arg23 arg25 arg26 X22 X23 X25 X26)
      (cc0_sa_abmilp_fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) ⟨⟩
      (At c arg22 arg23 arg25 arg26 X22 X23 X25 Z) ∧ Z = attPut i h2 X22 X23 X25 X26 := by
    apply Exists.intro; apply And.intro
    · rewrite [cc0_sa_abmilp_fused_eq_skeleton]; unfold cc0_sa_abmilp_fused_skel
      with_reducible apply Does.neg h1
      with_reducible apply Does.pos h2
      repeat (with_reducible first
        | apply Does.pure
        | apply Does.bind At.load22
        | apply Does.bind At.load23
        | apply Does.bind At.load25
        | apply Does.bind At.load26
        | apply Does.bind At.store26
        | apply Does.neg h3
        | apply Does.bind
        | (rewrite [k0_part2_eq_skeleton]; unfold k0_part2_skel)
        | (rewrite [k0_part3_eq_skeleton]; unfold k0_part3_skel)
        | (rewrite [k0_part4_eq_skeleton]; unfold k0_part4_skel)
        | (rewrite [k0_part5_eq_skeleton]; unfold k0_part5_skel)
        | (rewrite [k0_part6_eq_skeleton]; unfold k0_part6_skel)
        | (rewrite [k0_part7_eq_skeleton]; unfold k0_part7_skel)
        | (rewrite [k0_part8_eq_skeleton]; unfold k0_part8_skel)
        | (rewrite [k0_part9_eq_skeleton]; unfold k0_part9_skel)
        | (rewrite [k0_part10_eq_skeleton]; unfold k0_part10_skel)
        | (rewrite [k0_part11_eq_skeleton]; unfold k0_part11_skel)
        | (rewrite [k0_part12_eq_skeleton]; unfold k0_part12_skel)
        | (rewrite [k0_part13_eq_skeleton]; unfold k0_part13_skel)
        | (rewrite [k0_part14_eq_skeleton]; unfold k0_part14_skel)
        | (rewrite [k0_part15_eq_skeleton]; unfold k0_part15_skel)
        | (rewrite [k0_part16_eq_skeleton]; unfold k0_part16_skel)
        | (rewrite [k0_part17_eq_skeleton]; unfold k0_part17_skel)
        | (rewrite [k0_part18_eq_skeleton]; unfold k0_part18_skel)
        | (rewrite [k0_part19_eq_skeleton]; unfold k0_part19_skel)
        | (rewrite [k0_part20_eq_skeleton]; unfold k0_part20_skel)
        | (rewrite [k0_part21_eq_skeleton]; unfold k0_part21_skel)
        | (rewrite [k0_part22_eq_skeleton]; unfold k0_part22_skel)
        | (rewrite [k0_part23_eq_skeleton]; unfold k0_part23_skel)
        | (rewrite [k0_part24_eq_skeleton]; unfold k0_part24_skel)
        | (rewrite [k0_part25_eq_skeleton]; unfold k0_part25_skel)
        | (rewrite [k0_part26_eq_skeleton]; unfold k0_part26_skel)
        | (rewrite [k0_part27_eq_skeleton]; unfold k0_part27_skel)
        | (rewrite [k0_part28_eq_skeleton]; unfold k0_part28_skel)
        | (rewrite [k0_part29_eq_skeleton]; unfold k0_part29_skel)
        | (rewrite [k0_part30_eq_skeleton]; unfold k0_part30_skel))
    · unfold attPut
      repeat' (with_reducible apply put_congr)
      all_goals first | with_reducible rfl | exact (shapeCast_self _ _).trans rfl
  obtain ⟨Z, hZ, rfl⟩ := run
  exact hZ

end Cert.KernelIdeal.Hand
-- ==== Proof.State.lean ====
/-
  What the scratch arrays hold from step to step.  Each of the five arrays that carry values between steps has one final
  contents, a function of the operands; after any number of steps the part of the array written so far agrees with it.
-/
module

public import proofs.«01_k».proof.Proof.Attention
public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (c : Dev nD)

/-- Grid point number `n`. -/
def pnt (n : ℕ) (h : n < 13) : Fin cfg0.N := ⟨n, h.trans_eq N_0.symm⟩

/-- The coordinate of a grid point is its number. -/
theorem coords_val : ∀ t : Fin grid0.N, (grid0.coords t 0).val = t.val := by decide +kernel

/-! ## The block of features a step computes -/

/-- The features of block `t`, one row per instance, at full width. -/
def featT (t : Fin cfg0.N) : FVec F S64x1024 .f32 :=
  k0_pay11 (iblk m c 0 t) (iblk m c 1 t) (iblk m c 2 t) (iblk m c 3 t) (iblk m c 4 t) (iblk m c 5 t) (iblk m c 6 t)

/-- The rows step `t` puts into the first scratch array. -/
def blkHb (t : Fin cfg0.N) : Vec F S1024x64 .bf16 :=
  k0_pay1 (k0_pay12 (iblk m c 0 t) (iblk m c 1 t) (iblk m c 2 t) (iblk m c 3 t) (iblk m c 4 t) (iblk m c 5 t) (iblk m c 6 t))
/-- The columns step `t` puts into the second scratch array. -/
def blkHtb (t : Fin cfg0.N) : Vec F S72x1024 .bf16 := k0_pay2 (featT m c t)
/-- The columns step `t` puts into the third scratch array. -/
def blkHt (t : Fin cfg0.N) : Vec F S64x1024 .f32 := k0_pay3 (featT m c t)
/-- The columns step `t` puts into the fourth scratch array. -/
def blkFtb (t : Fin cfg0.N) : Vec F S64x1024 .bf16 := k0_pay4 (featT m c t) (iblk m c 8 t) (iblk m c 7 t) (iblk m c 8 t) (iblk m c 9 t)

/-! ## Arrays put together from blocks -/

/-- The block of 1024 that index `n` of 8192 lies in, as a grid point. -/
def blkOf (n : Fin 8192) : Fin cfg0.N := pnt (n.val / 1024) (by omega)

/-- Blocks of 1024 rows one under the other. -/
def rows (B : Fin cfg0.N → Vec F S1024x64 .bf16) : S8192x64.Idx → Elt F .bf16 :=
  fun y => B (blkOf (y 0)) (ix2 ⟨(y 0).val % 1024, Nat.mod_lt _ (by decide)⟩ (y 1))
/-- Blocks of 1024 columns side by side, 72 rows. -/
def cols72 (B : Fin cfg0.N → Vec F S72x1024 .bf16) : S72x8192.Idx → Elt F .bf16 :=
  fun y => B (blkOf (y 1)) (ix2 (y 0) ⟨(y 1).val % 1024, Nat.mod_lt _ (by decide)⟩)
/-- Blocks of 1024 columns side by side, 64 rows. -/
def cols64 {e : EltTy} (B : Fin cfg0.N → Vec F S64x1024 e) : S64x8192.Idx → Elt F e :=
  fun y => B (blkOf (y 1)) (ix2 (y 0) ⟨(y 1).val % 1024, Nat.mod_lt _ (by decide)⟩)

/-- The feature rows. -/
def HB : S8192x64.Idx → Elt F .bf16 := rows (blkHb m c)
/-- The feature columns, with the row of ones below them. -/
def HTB : S72x8192.Idx → Elt F .bf16 := cols72 (blkHtb m c)
/-- The feature columns at full width. -/
def HT : S64x8192.Idx → Elt F .f32 := cols64 (blkHt m c)
/-- The projected queries. -/
def FTB : S64x8192.Idx → Elt F .bf16 := cols64 (blkFtb m c)

/-- The projected queries of column tile `q`. -/
def qTile (X25 : S64x8192.Idx → Elt F .bf16) (q : Fin 32) : S64x256.Idx → Elt F .bf16 :=
  VecWindow.window X25 ![0, 256 * q.val] S64x256.size (by decide +kernel +revert)

/-- The attention sums of all the columns, tile by tile. -/
def sums (X22 : S8192x64.Idx → Elt F .bf16) (X23 : S72x8192.Idx → Elt F .bf16) (X25 : S64x8192.Idx → Elt F .bf16) :
    S72x8192.Idx → Elt F .f32 :=
  fun y => attTile X22 X23 (qTile X25 ⟨(y 1).val / 256, by have := (y 1).isLt; exact Nat.div_lt_of_lt_mul this⟩)
    (ix2 (y 0) ⟨(y 1).val % 256, Nat.mod_lt _ (by decide)⟩)

/-- The attention sums. -/
def OTL : S72x8192.Idx → Elt F .f32 := sums (HB m c) (HTB m c) (FTB m c)

/-! ## A window put extends the agreement -/

/-- If `X` agrees with `G` below `n` on axis `a`, the window put agrees with `G`, and the window covers what lies between
    `n` and `n'`, then the result agrees with `G` below `n'`. -/
theorem agree_put {S : Shape} {α : Type} (a : Fin S.rank) {n n' : ℕ} {X G : S.Idx → α} {off size : Fin S.rank → ℕ}
    {w : ((a : Fin S.rank) → Fin (size a)) → α} (hX : ∀ y : S.Idx, (y a).val < n → X y = G y)
    (hw : ∀ (y : S.Idx) (h : ∀ b, off b ≤ (y b).val ∧ (y b).val < off b + size b), w (Rect.unitLocal y h) = G y)
    (hcov : ∀ y : S.Idx, (y a).val < n' → ¬ (y a).val < n → ∀ b, off b ≤ (y b).val ∧ (y b).val < off b + size b) :
    ∀ y : S.Idx, (y a).val < n' → VecWindow.put X off size w y = G y := fun y hy => by
  unfold VecWindow.put
  split
  · next h => exact hw y h
  · next h => exact hX y (by by_contra hn; exact h (hcov y hy hn))

/-- Storing row block `t` when the blocks before it are filled fills the blocks through `t`. -/
theorem rows_put (B : Fin cfg0.N → Vec F S1024x64 .bf16) (t : Fin cfg0.N) (ht : t.val < 8) {X : S8192x64.Idx → Elt F .bf16}
    {off : Fin S8192x64.rank → ℕ} (ho : off = ![1024 * t.val, 0])
    (hX : ∀ y : S8192x64.Idx, (y 0).val < 1024 * t.val → X y = rows B y) :
    ∀ y : S8192x64.Idx, (y 0).val < 1024 * (t.val + 1) → VecWindow.put X off S1024x64.size (B t) y = rows B y := by
  subst ho
  refine agree_put 0 hX (fun y h => ?_) fun y h hn b => ?_
  · have h0 := h 0
    change 1024 * t.val ≤ (y 0).val ∧ (y 0).val < 1024 * t.val + 1024 at h0
    have e : blkOf (y 0) = t := Fin.ext (by change (y 0).val / 1024 = t.val; omega)
    unfold rows
    rw [e]
    refine congrArg (B t) (funext fun b => ?_)
    fin_cases b
    · exact Fin.ext (by change (y 0).val - 1024 * t.val = (y 0).val % 1024; omega)
    · exact Fin.ext (by change (y 1).val - 0 = (y 1).val; omega)
  · fin_cases b
    · change 1024 * t.val ≤ (y 0).val ∧ (y 0).val < 1024 * t.val + 1024; omega
    · exact ⟨Nat.zero_le _, (y 1).isLt.trans_eq (Nat.zero_add _).symm⟩

/-- The same for column blocks of 72 rows. -/
theorem cols72_put (B : Fin cfg0.N → Vec F S72x1024 .bf16) (t : Fin cfg0.N) (ht : t.val < 8) {X : S72x8192.Idx → Elt F .bf16}
    {off : Fin S72x8192.rank → ℕ} (ho : off = ![0, 1024 * t.val])
    (hX : ∀ y : S72x8192.Idx, (y 1).val < 1024 * t.val → X y = cols72 B y) :
    ∀ y : S72x8192.Idx, (y 1).val < 1024 * (t.val + 1) → VecWindow.put X off S72x1024.size (B t) y = cols72 B y := by
  subst ho
  refine agree_put 1 hX (fun y h => ?_) fun y h hn b => ?_
  · have h0 := h 1
    change 1024 * t.val ≤ (y 1).val ∧ (y 1).val < 1024 * t.val + 1024 at h0
    have e : blkOf (y 1) = t := Fin.ext (by change (y 1).val / 1024 = t.val; omega)
    unfold cols72
    rw [e]
    refine congrArg (B t) (funext fun b => ?_)
    fin_cases b
    · exact Fin.ext (by change (y 0).val - 0 = (y 0).val; omega)
    · exact Fin.ext (by change (y 1).val - 1024 * t.val = (y 1).val % 1024; omega)
  · fin_cases b
    · exact ⟨Nat.zero_le _, (y 0).isLt.trans_eq (Nat.zero_add _).symm⟩
    · change 1024 * t.val ≤ (y 1).val ∧ (y 1).val < 1024 * t.val + 1024; omega

/-- The same for column blocks of 64 rows. -/
theorem cols64_put {e : EltTy} (B : Fin cfg0.N → Vec F S64x1024 e) (t : Fin cfg0.N) (ht : t.val < 8) {X : S64x8192.Idx → Elt F e}
    {off : Fin S64x8192.rank → ℕ} (ho : off = ![0, 1024 * t.val])
    (hX : ∀ y : S64x8192.Idx, (y 1).val < 1024 * t.val → X y = cols64 B y) :
    ∀ y : S64x8192.Idx, (y 1).val < 1024 * (t.val + 1) → VecWindow.put X off S64x1024.size (B t) y = cols64 B y := by
  subst ho
  refine agree_put 1 hX (fun y h => ?_) fun y h hn b => ?_
  · have h0 := h 1
    change 1024 * t.val ≤ (y 1).val ∧ (y 1).val < 1024 * t.val + 1024 at h0
    have e : blkOf (y 1) = t := Fin.ext (by change (y 1).val / 1024 = t.val; omega)
    unfold cols64
    rw [e]
    refine congrArg (B t) (funext fun b => ?_)
    fin_cases b
    · exact Fin.ext (by change (y 0).val - 0 = (y 0).val; omega)
    · exact Fin.ext (by change (y 1).val - 1024 * t.val = (y 1).val % 1024; omega)
  · fin_cases b
    · exact ⟨Nat.zero_le _, (y 0).isLt.trans_eq (Nat.zero_add _).symm⟩
    · change 1024 * t.val ≤ (y 1).val ∧ (y 1).val < 1024 * t.val + 1024; omega

/-! ## The eight tiles of an attention step -/

/-- Where an attention step reads its column block `g`. -/
theorem off4_tile : ∀ (t : Fin grid0.N) (g : Fin 8), k0_cond2 (grid0.coords t) = 1#1 →
    k0_off4 (grid0.coords t) (BitVec.ofNat 32 (256 * g.val)) = ![0, 256 * (8 * (t.val - 8) + g.val)] := by decide +kernel
/-- Where it writes its column block `g`. -/
theorem off5_tile : ∀ (t : Fin grid0.N) (g : Fin 8), k0_cond2 (grid0.coords t) = 1#1 →
    k0_off5 (grid0.coords t) (BitVec.ofNat 32 (256 * g.val)) = ![0, 256 * (8 * (t.val - 8) + g.val)] := by decide +kernel
/-- The attention step runs at the points 8 to 11. -/
theorem cond2_lt : ∀ t : Fin grid0.N, k0_cond2 (grid0.coords t) = 1#1 → 8 ≤ t.val ∧ t.val < 12 := by decide +kernel

/-- Equal windows of equal offsets. -/
theorem window_congr {S : Shape} {α : Type} (X : S.Idx → α) {off off' size : Fin S.rank → ℕ} (inb inb') (h : off = off') :
    VecWindow.window X off size inb = VecWindow.window X off' size inb' := by subst h; rfl

/-- One tile put extends the agreement of the sums by 256 columns. -/
theorem tile_put (X22 : S8192x64.Idx → Elt F .bf16) (X23 : S72x8192.Idx → Elt F .bf16) (X25 : S64x8192.Idx → Elt F .bf16)
    {X26 : S72x8192.Idx → Elt F .f32} (t : Fin grid0.N) (h2 : k0_cond2 (grid0.coords t) = 1#1) (g : Fin 8)
    (inb : ∀ a, k0_off4 (grid0.coords t) (BitVec.ofNat 32 (256 * g.val)) a + S64x256.size a ≤ S64x8192.size a)
    (hX : ∀ y : S72x8192.Idx, (y 1).val < 256 * (8 * (t.val - 8) + g.val) → X26 y = sums X22 X23 X25 y) :
    ∀ y : S72x8192.Idx, (y 1).val < 256 * (8 * (t.val - 8) + g.val + 1) →
      VecWindow.put X26 (k0_off5 (grid0.coords t) (BitVec.ofNat 32 (256 * g.val))) S72x256.size
        (attTile X22 X23 (VecWindow.window X25 (k0_off4 (grid0.coords t) (BitVec.ofNat 32 (256 * g.val))) S64x256.size inb)) y
        = sums X22 X23 X25 y := by
  have hq : 8 * (t.val - 8) + g.val < 32 := by have := cond2_lt t h2; omega
  rw [window_congr X25 inb _ (off4_tile t g h2), off5_tile t g h2]
  refine agree_put 1 hX (fun y h => ?_) fun y h hn b => ?_
  · have h0 := h 1
    change 256 * (8 * (t.val - 8) + g.val) ≤ (y 1).val ∧ (y 1).val < 256 * (8 * (t.val - 8) + g.val) + 256 at h0
    have e : (⟨(y 1).val / 256, by have := (y 1).isLt; exact Nat.div_lt_of_lt_mul this⟩ : Fin 32) = ⟨8 * (t.val - 8) + g.val, hq⟩ :=
      Fin.ext (by change (y 1).val / 256 = 8 * (t.val - 8) + g.val; omega)
    unfold sums
    rw [e]
    refine congrArg (attTile X22 X23 (qTile X25 ⟨8 * (t.val - 8) + g.val, hq⟩)) (funext fun b => ?_)
    fin_cases b
    · exact Fin.ext (by change (y 0).val - 0 = (y 0).val; omega)
    · exact Fin.ext (by change (y 1).val - 256 * (8 * (t.val - 8) + g.val) = (y 1).val % 256; omega)
  · fin_cases b
    · exact ⟨Nat.zero_le _, (y 0).isLt.trans_eq (Nat.zero_add _).symm⟩
    · change 256 * (8 * (t.val - 8) + g.val) ≤ (y 1).val ∧ (y 1).val < 256 * (8 * (t.val - 8) + g.val) + 256; omega

/-- An attention step extends the agreement of the sums by 2048 columns. -/
theorem attPut_agree (X22 : S8192x64.Idx → Elt F .bf16) (X23 : S72x8192.Idx → Elt F .bf16) (X25 : S64x8192.Idx → Elt F .bf16)
    {X26 : S72x8192.Idx → Elt F .f32} (t : Fin grid0.N) (h2 : k0_cond2 (grid0.coords t) = 1#1)
    (hX : ∀ y : S72x8192.Idx, (y 1).val < 2048 * (t.val - 8) → X26 y = sums X22 X23 X25 y) :
    ∀ y : S72x8192.Idx, (y 1).val < 2048 * (t.val + 1 - 8) → attPut (grid0.coords t) h2 X22 X23 X25 X26 y = sums X22 X23 X25 y := by
  have h8 := cond2_lt t h2
  unfold attPut
  intro y hy
  have b0 : ∀ y : S72x8192.Idx, (y 1).val < 256 * (8 * (t.val - 8) + (0 : Fin 8).val) → X26 y = sums X22 X23 X25 y :=
    fun y hy => hX y (by change (y 1).val < 256 * (8 * (t.val - 8) + 0) at hy; omega)
  have b1 := tile_put X22 X23 X25 t h2 0 (k0_off4_inb _ h2 0) b0
  have b2 := tile_put X22 X23 X25 t h2 1 (k0_off4_inb _ h2 1) b1
  have b3 := tile_put X22 X23 X25 t h2 2 (k0_off4_inb _ h2 2) b2
  have b4 := tile_put X22 X23 X25 t h2 3 (k0_off4_inb _ h2 3) b3
  have b5 := tile_put X22 X23 X25 t h2 4 (k0_off4_inb _ h2 4) b4
  have b6 := tile_put X22 X23 X25 t h2 5 (k0_off4_inb _ h2 5) b5
  have b7 := tile_put X22 X23 X25 t h2 6 (k0_off4_inb _ h2 6) b6
  have b8 := tile_put X22 X23 X25 t h2 7 (k0_off4_inb _ h2 7) b7
  exact b8 y (by change (y 1).val < 256 * (8 * (t.val - 8) + 7 + 1); omega)

end Cert.KernelIdeal.Hand
-- ==== Proof.Body.lean ====
/-
  The three phases of the kernel's body, each run once on operands given by name.  A phase is selected by the grid
  coordinate; the statement of a phase says which buffers it touches, what it reads there, and what it leaves.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The buffer of memref `M` on core `c`, held whole at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- One unmasked store over contents that read `X` leaves `X` with the payload over the stored rectangle. -/
theorem read_put {c : Dev nD} {sp : Space} {S : Shape} {e : EltTy} (M : Memref sig .tc sp S e)
    (f : Buf (Elt F) (M.view.loc (c : Thread nD τ))) {X : S.Idx → Elt F e} (hX : M.view.read (Elt F) f = X)
    {off off' size : Fin S.rank → ℕ} (inb : ∀ a, off a + size a ≤ S.size a) (ho : off = off')
    (w w' : (Rect.unit off size inb).shape.Idx → Elt F e) (hw : w = w') :
    M.view.read (Elt F) (M.view.writes (Elt F) f [⟨Rect.unit off size inb, w⟩]) = VecWindow.put X off' size w' := by
  subst hX; subst hw
  exact View.read_writes_cons_put M.view f inb w [] ho

/-- The first phase, at a step that works on a block of rows: from the block of `x` and the weights, the step puts the
    block's 1024 feature rows over their rows of the first scratch array, and their columns over those of the next three. -/
theorem runMlp (c : Dev nD) (i : grid0.Coords) (h1 : k0_cond1 i = 1#1) (h2 : ¬ k0_cond2 i = 1#1) (h3 : ¬ k0_cond3 i = 1#1)
  (arg1 : Memref sig .tc .vmem S1024x1024 .f32) (harg1 : arg1.IsWhole)
  (arg2 : Memref sig .tc .vmem S1024x256 .bf16) (harg2 : arg2.IsWhole)
  (arg3 : Memref sig .tc .vmem S1x256 .f32) (harg3 : arg3.IsWhole)
  (arg4 : Memref sig .tc .vmem S256x128 .bf16) (harg4 : arg4.IsWhole)
  (arg5 : Memref sig .tc .vmem S1x128 .f32) (harg5 : arg5.IsWhole)
  (arg6 : Memref sig .tc .vmem S128x64 .bf16) (harg6 : arg6.IsWhole)
  (arg7 : Memref sig .tc .vmem S1x64 .f32) (harg7 : arg7.IsWhole)
  (arg8 : Memref sig .tc .vmem S64x8 .f32) (harg8 : arg8.IsWhole)
  (arg9 : Memref sig .tc .vmem S64x8 .f32) (harg9 : arg9.IsWhole)
  (arg10 : Memref sig .tc .vmem S1x8 .f32) (harg10 : arg10.IsWhole)
  (arg11 : Memref sig .tc .vmem S64x64 .f32) (harg11 : arg11.IsWhole)
  (arg12 : Memref sig .tc .vmem S64x1 .f32) (harg12 : arg12.IsWhole)
  (arg13 : Memref sig .tc .vmem S1x1 .f32) (harg13 : arg13.IsWhole)
  (arg14 : Memref sig .tc .vmem S64x64 .f32) (harg14 : arg14.IsWhole)
  (arg15 : Memref sig .tc .vmem S64x1 .f32) (harg15 : arg15.IsWhole)
  (arg16 : Memref sig .tc .vmem S64x1 .f32) (harg16 : arg16.IsWhole)
  (arg17 : Memref sig .tc .vmem S1x1 .f32) (harg17 : arg17.IsWhole)
  (arg18 : Memref sig .tc .vmem S64x1 .f32) (harg18 : arg18.IsWhole)
  (arg19 : Memref sig .tc .vmem S1x1 .f32) (harg19 : arg19.IsWhole)
  (arg20 : Memref sig .tc .vmem S1x1 .f32) (harg20 : arg20.IsWhole)
  (arg21 : Memref sig .tc .vmem S64x1 .f32) (harg21 : arg21.IsWhole)
  (arg22 : Memref sig .tc .vmem S8192x64 .bf16) (harg22 : arg22.IsWhole)
  (arg23 : Memref sig .tc .vmem S72x8192 .bf16) (harg23 : arg23.IsWhole)
  (arg24 : Memref sig .tc .vmem S64x8192 .f32) (harg24 : arg24.IsWhole)
  (arg25 : Memref sig .tc .vmem S64x8192 .bf16) (harg25 : arg25.IsWhole)
  (arg26 : Memref sig .tc .vmem S72x8192 .f32) (harg26 : arg26.IsWhole)
  (arg27 : Memref sig .tc .vmem S64x8192 .f32) (harg27 : arg27.IsWhole)
  (X1 : Vec F S1024x1024 .f32)
  (X2 : Vec F S1024x256 .bf16)
  (X3 : Vec F S1x256 .f32)
  (X4 : Vec F S256x128 .bf16)
  (X5 : Vec F S1x128 .f32)
  (X6 : Vec F S128x64 .bf16)
  (X7 : Vec F S1x64 .f32)
  (X8 : Vec F S64x8 .f32)
  (X9 : Vec F S64x8 .f32)
  (X10 : Vec F S1x8 .f32)
  (X22 : Vec F S8192x64 .bf16)
  (X23 : Vec F S72x8192 .bf16)
  (X24 : Vec F S64x8192 .f32)
  (X25 : Vec F S64x8192 .bf16)
  (K : PUnit → sProp 𝕄) :
  iprop(owns (c : Thread nD τ) arg1 fullShare X1
      ∗ owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare X8
      ∗ owns (c : Thread nD τ) arg9 fullShare X9
      ∗ owns (c : Thread nD τ) arg10 fullShare X10
      ∗ owns (c : Thread nD τ) arg22 fullShare X22
      ∗ owns (c : Thread nD τ) arg23 fullShare X23
      ∗ owns (c : Thread nD τ) arg24 fullShare X24
      ∗ owns (c : Thread nD τ) arg25 fullShare X25
      ∗ (iprop(owns (c : Thread nD τ) arg1 fullShare X1
      ∗ owns (c : Thread nD τ) arg2 fullShare X2
      ∗ owns (c : Thread nD τ) arg3 fullShare X3
      ∗ owns (c : Thread nD τ) arg4 fullShare X4
      ∗ owns (c : Thread nD τ) arg5 fullShare X5
      ∗ owns (c : Thread nD τ) arg6 fullShare X6
      ∗ owns (c : Thread nD τ) arg7 fullShare X7
      ∗ owns (c : Thread nD τ) arg8 fullShare X8
      ∗ owns (c : Thread nD τ) arg9 fullShare X9
      ∗ owns (c : Thread nD τ) arg10 fullShare X10
      ∗ owns (c : Thread nD τ) arg22 fullShare (VecWindow.put X22 ![1024 * (i 0).val, 0] S1024x64.size (k0_pay1 (k0_pay12 X1 X2 X3 X4 X5 X6 X7)))
      ∗ owns (c : Thread nD τ) arg23 fullShare (VecWindow.put X23 ![0, 1024 * (i 0).val] S72x1024.size (k0_pay2 (k0_pay11 X1 X2 X3 X4 X5 X6 X7)))
      ∗ owns (c : Thread nD τ) arg24 fullShare (VecWindow.put X24 ![0, 1024 * (i 0).val] S64x1024.size (k0_pay3 (k0_pay11 X1 X2 X3 X4 X5 X6 X7)))
      ∗ owns (c : Thread nD τ) arg25 fullShare (VecWindow.put X25 ![0, 1024 * (i 0).val] S64x1024.size (k0_pay4 (k0_pay11 X1 X2 X3 X4 X5 X6 X7) X9 X8 X9 X10))) -∗ K ⟨⟩))
    ⊢ wp frame (wpE (defs₀ (F := F)) Variants.none c none) Set.univ
        (cc0_sa_abmilp_fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_sa_abmilp_fused_eq_skeleton]; unfold cc0_sa_abmilp_fused_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f22, %e22, H22⟩, ⟨%f23, %e23, H23⟩, ⟨%f24, %e24, H24⟩, ⟨%f25, %e25, H25⟩, Hk⟩
  sl_exec (disch := first | sl_exact h1 | sl_exact h2 | sl_exact h3)
  have r1 := (View.readAt_full arg1.view f1 inb_S1024x1024_S1024x1024_0_0).trans e1
  have r2 := (View.readAt_full arg2.view f2 inb_S1024x256_S1024x256_0_0).trans e2
  have r3 := (View.readAt_full arg3.view f3 inb_S1x256_S1x256_0_0).trans e3
  have r4 := (View.readAt_full arg4.view f4 inb_S256x128_S256x128_0_0).trans e4
  have r5 := (View.readAt_full arg5.view f5 inb_S1x128_S1x128_0_0).trans e5
  have r6 := (View.readAt_full arg6.view f6 inb_S128x64_S128x64_0_0).trans e6
  have r7 := (View.readAt_full arg7.view f7 inb_S1x64_S1x64_0_0).trans e7
  have r8 := (View.readAt_full arg8.view f8 inb_S64x8_S64x8_0_0).trans e8
  have r9 := (View.readAt_full arg9.view f9 inb_S64x8_S64x8_0_0).trans e9
  have r10 := (View.readAt_full arg10.view f10 inb_S1x8_S1x8_0_0).trans e10
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  isplitl [H9]
  · iexists _; isplitr; swap; · iexact H9
    ipureintro; exact e9
  isplitl [H10]
  · iexists _; isplitr; swap; · iexact H10
    ipureintro; exact e10
  isplitl [H22]
  · iexists _; isplitr; swap; · iexact H22
    ipureintro; exact read_put arg22 f22 e22 _ (k0_off1_eq i) _ _ (by subst r1 r2 r3 r4 r5 r6 r7 r8 r9 r10; rfl)
  isplitl [H23]
  · iexists _; isplitr; swap; · iexact H23
    ipureintro; exact read_put arg23 f23 e23 _ (k0_off2_eq i) _ _ (by subst r1 r2 r3 r4 r5 r6 r7 r8 r9 r10; rfl)
  isplitl [H24]
  · iexists _; isplitr; swap; · iexact H24
    ipureintro; exact read_put arg24 f24 e24 _ (k0_off3_eq i) _ _ (by subst r1 r2 r3 r4 r5 r6 r7 r8 r9 r10; rfl)
  · iexists _; isplitr; swap; · iexact H25
    ipureintro; exact read_put arg25 f25 e25 _ (k0_off3_eq i) _ _ (by subst r1 r2 r3 r4 r5 r6 r7 r8 r9 r10; rfl)

end Cert.KernelIdeal.Hand
-- ==== Proof.Post.lean ====
/-
  The last phase of the kernel's body: normalisation, the gated residual, the scores, the bag embedding and its probability.
-/
module

public import proofs.«01_k».proof.Proof.Body
public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The first 64 rows of the attention sums: the weighted feature sums, one column per instance. -/
def postTop (X26 : Vec F S72x8192 .f32) : Vec F S64x8192 .f32 := VecWindow.window X26 ![0, 0] S64x8192.size inb_S72x8192_S64x8192_0_0
/-- Row 64 of the attention sums: the total weight of each instance. -/
def postSum (X26 : Vec F S72x8192 .f32) : Vec F S1x8192 .f32 := VecWindow.window X26 ![64, 0] S1x8192.size inb_S72x8192_S1x8192_64_0

/-- The last phase: from the attention sums, the feature columns and the weights, the step leaves the attended features in the
    last scratch array, the bag embedding in the second output and the clipped probability in the first. -/
theorem runPost (c : Dev nD) (i : grid0.Coords) (h1 : ¬ k0_cond1 i = 1#1) (h2 : ¬ k0_cond2 i = 1#1) (h3 : k0_cond3 i = 1#1)
  (arg1 : Memref sig .tc .vmem S1024x1024 .f32) (harg1 : arg1.IsWhole)
  (arg2 : Memref sig .tc .vmem S1024x256 .bf16) (harg2 : arg2.IsWhole)
  (arg3 : Memref sig .tc .vmem S1x256 .f32) (harg3 : arg3.IsWhole)
  (arg4 : Memref sig .tc .vmem S256x128 .bf16) (harg4 : arg4.IsWhole)
  (arg5 : Memref sig .tc .vmem S1x128 .f32) (harg5 : arg5.IsWhole)
  (arg6 : Memref sig .tc .vmem S128x64 .bf16) (harg6 : arg6.IsWhole)
  (arg7 : Memref sig .tc .vmem S1x64 .f32) (harg7 : arg7.IsWhole)
  (arg8 : Memref sig .tc .vmem S64x8 .f32) (harg8 : arg8.IsWhole)
  (arg9 : Memref sig .tc .vmem S64x8 .f32) (harg9 : arg9.IsWhole)
  (arg10 : Memref sig .tc .vmem S1x8 .f32) (harg10 : arg10.IsWhole)
  (arg11 : Memref sig .tc .vmem S64x64 .f32) (harg11 : arg11.IsWhole)
  (arg12 : Memref sig .tc .vmem S64x1 .f32) (harg12 : arg12.IsWhole)
  (arg13 : Memref sig .tc .vmem S1x1 .f32) (harg13 : arg13.IsWhole)
  (arg14 : Memref sig .tc .vmem S64x64 .f32) (harg14 : arg14.IsWhole)
  (arg15 : Memref sig .tc .vmem S64x1 .f32) (harg15 : arg15.IsWhole)
  (arg16 : Memref sig .tc .vmem S64x1 .f32) (harg16 : arg16.IsWhole)
  (arg17 : Memref sig .tc .vmem S1x1 .f32) (harg17 : arg17.IsWhole)
  (arg18 : Memref sig .tc .vmem S64x1 .f32) (harg18 : arg18.IsWhole)
  (arg19 : Memref sig .tc .vmem S1x1 .f32) (harg19 : arg19.IsWhole)
  (arg20 : Memref sig .tc .vmem S1x1 .f32) (harg20 : arg20.IsWhole)
  (arg21 : Memref sig .tc .vmem S64x1 .f32) (harg21 : arg21.IsWhole)
  (arg22 : Memref sig .tc .vmem S8192x64 .bf16) (harg22 : arg22.IsWhole)
  (arg23 : Memref sig .tc .vmem S72x8192 .bf16) (harg23 : arg23.IsWhole)
  (arg24 : Memref sig .tc .vmem S64x8192 .f32) (harg24 : arg24.IsWhole)
  (arg25 : Memref sig .tc .vmem S64x8192 .bf16) (harg25 : arg25.IsWhole)
  (arg26 : Memref sig .tc .vmem S72x8192 .f32) (harg26 : arg26.IsWhole)
  (arg27 : Memref sig .tc .vmem S64x8192 .f32) (harg27 : arg27.IsWhole)
  (X11 : Vec F S64x64 .f32)
  (X12 : Vec F S64x1 .f32)
  (X13 : Vec F S1x1 .f32)
  (X14 : Vec F S64x64 .f32)
  (X15 : Vec F S64x1 .f32)
  (X16 : Vec F S64x1 .f32)
  (X17 : Vec F S1x1 .f32)
  (X18 : Vec F S64x1 .f32)
  (X19 : Vec F S1x1 .f32)
  (X20 : Vec F S1x1 .f32)
  (X21 : Vec F S64x1 .f32)
  (X24 : Vec F S64x8192 .f32)
  (X26 : Vec F S72x8192 .f32)
  (X27 : Vec F S64x8192 .f32)
  (K : PUnit → sProp 𝕄) :
  iprop(owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg15 fullShare X15
      ∗ owns (c : Thread nD τ) arg16 fullShare X16
      ∗ owns (c : Thread nD τ) arg17 fullShare X17
      ∗ owns (c : Thread nD τ) arg18 fullShare X18
      ∗ owns (c : Thread nD τ) arg19 fullShare X19
      ∗ owns (c : Thread nD τ) arg20 fullShare X20
      ∗ owns (c : Thread nD τ) arg21 fullShare X21
      ∗ owns (c : Thread nD τ) arg24 fullShare X24
      ∗ owns (c : Thread nD τ) arg26 fullShare X26
      ∗ owns (c : Thread nD τ) arg27 fullShare X27
      ∗ (iprop(owns (c : Thread nD τ) arg11 fullShare X11
      ∗ owns (c : Thread nD τ) arg12 fullShare X12
      ∗ owns (c : Thread nD τ) arg13 fullShare X13
      ∗ owns (c : Thread nD τ) arg14 fullShare X14
      ∗ owns (c : Thread nD τ) arg15 fullShare X15
      ∗ owns (c : Thread nD τ) arg16 fullShare X16
      ∗ owns (c : Thread nD τ) arg17 fullShare X17
      ∗ owns (c : Thread nD τ) arg18 fullShare X18
      ∗ owns (c : Thread nD τ) arg19 fullShare X19
      ∗ owns (c : Thread nD τ) arg20 fullShare (k0_pay9 (k0_pay277 (postTop X26) (postSum X26) X11 X12 X13 X24 X14 X15 X16 X17) (k0_pay278 (postTop X26) (postSum X26) X11 X12 X13 X24 X14 X15 X16 X17) (k0_pay276 (postTop X26) (postSum X26) X11 X12 X13 X24) X18 X19)
      ∗ owns (c : Thread nD τ) arg21 fullShare (k0_pay8 (k0_pay277 (postTop X26) (postSum X26) X11 X12 X13 X24 X14 X15 X16 X17) (k0_pay278 (postTop X26) (postSum X26) X11 X12 X13 X24 X14 X15 X16 X17) (k0_pay276 (postTop X26) (postSum X26) X11 X12 X13 X24))
      ∗ owns (c : Thread nD τ) arg24 fullShare X24
      ∗ owns (c : Thread nD τ) arg26 fullShare X26
      ∗ owns (c : Thread nD τ) arg27 fullShare (k0_pay276 (postTop X26) (postSum X26) X11 X12 X13 X24)) -∗ K ⟨⟩))
    ⊢ wp frame (wpE (defs₀ (F := F)) Variants.none c none) Set.univ
        (cc0_sa_abmilp_fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_sa_abmilp_fused_eq_skeleton]; unfold cc0_sa_abmilp_fused_skel
  unfold owns
  iintro ⟨⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, ⟨%f24, %e24, H24⟩, ⟨%f26, %e26, H26⟩, ⟨%f27, %e27, H27⟩, Hk⟩
  sl_exec (disch := first | sl_exact h1 | sl_exact h2 | sl_exact h3)
  have r11 := (View.readAt_full arg11.view f11 inb_S64x64_S64x64_0_0).trans e11
  have r12 := (View.readAt_full arg12.view f12 inb_S64x1_S64x1_0_0).trans e12
  have r13 := (View.readAt_full arg13.view f13 inb_S1x1_S1x1_0_0).trans e13
  have r14 := (View.readAt_full arg14.view f14 inb_S64x64_S64x64_0_0).trans e14
  have r15 := (View.readAt_full arg15.view f15 inb_S64x1_S64x1_0_0).trans e15
  have r16 := (View.readAt_full arg16.view f16 inb_S64x1_S64x1_0_0).trans e16
  have r17 := (View.readAt_full arg17.view f17 inb_S1x1_S1x1_0_0).trans e17
  have r18 := (View.readAt_full arg18.view f18 inb_S64x1_S64x1_0_0).trans e18
  have r19 := (View.readAt_full arg19.view f19 inb_S1x1_S1x1_0_0).trans e19
  have r24 := (View.readAt_full arg24.view f24 inb_S64x8192_S64x8192_0_0).trans e24
  sl_step
  iapply Hk
  isplitl [H11]
  · iexists _; isplitr; swap; · iexact H11
    ipureintro; exact e11
  isplitl [H12]
  · iexists _; isplitr; swap; · iexact H12
    ipureintro; exact e12
  isplitl [H13]
  · iexists _; isplitr; swap; · iexact H13
    ipureintro; exact e13
  isplitl [H14]
  · iexists _; isplitr; swap; · iexact H14
    ipureintro; exact e14
  isplitl [H15]
  · iexists _; isplitr; swap; · iexact H15
    ipureintro; exact e15
  isplitl [H16]
  · iexists _; isplitr; swap; · iexact H16
    ipureintro; exact e16
  isplitl [H17]
  · iexists _; isplitr; swap; · iexact H17
    ipureintro; exact e17
  isplitl [H18]
  · iexists _; isplitr; swap; · iexact H18
    ipureintro; exact e18
  isplitl [H19]
  · iexists _; isplitr; swap; · iexact H19
    ipureintro; exact e19
  isplitl [H20]
  · iexists _; isplitr; swap; · iexact H20
    ipureintro; rw [View.read_writes_full]; subst r11 r12 r13 r14 r15 r16 r17 r18 r19 r24; subst e26; exact congrArg (fun z => k0_pay9 _ _ z _ _) (View.readCov_full arg27.view _ _ _ [])
  isplitl [H21]
  · iexists _; isplitr; swap; · iexact H21
    ipureintro; rw [View.read_writes_full]; subst r11 r12 r13 r14 r15 r16 r17 r18 r19 r24; subst e26; exact congrArg (fun z => k0_pay8 _ _ z) (View.readCov_full arg27.view _ _ _ [])
  isplitl [H24]
  · iexists _; isplitr; swap; · iexact H24
    ipureintro; exact e24
  isplitl [H26]
  · iexists _; isplitr; swap; · iexact H26
    ipureintro; exact e26
  · iexists _; isplitr; swap; · iexact H27
    ipureintro; refine (View.read_writes_full arg27.view _ _ _ []).trans ?_; subst r11 r12 r13 r14 r15 r16 r17 r18 r19 r24; subst e26; rfl

end Cert.KernelIdeal.Hand
-- ==== Proof.Phases.lean ====
/-
  One step of the kernel at a grid point, and the run: every step starts from the state the steps before it left, and the
  launch of the whole pipeline ends with the two outputs written once, at the last point.
-/
module

public import proofs.«01_k».proof.Proof.State
public import proofs.«01_k».proof.Proof.Body
public import proofs.«01_k».proof.Proof.Post
public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-- The first eight points run the feature step only. -/
theorem phase1 : ∀ t : Fin grid0.N, t.val < 8 →
    k0_cond1 (grid0.coords t) = 1#1 ∧ ¬ k0_cond2 (grid0.coords t) = 1#1 ∧ ¬ k0_cond3 (grid0.coords t) = 1#1 := by decide +kernel
/-- The next four run the attention step only. -/
theorem phase2 : ∀ t : Fin grid0.N, ¬ t.val < 8 → t.val < 12 →
    ¬ k0_cond1 (grid0.coords t) = 1#1 ∧ k0_cond2 (grid0.coords t) = 1#1 ∧ ¬ k0_cond3 (grid0.coords t) = 1#1 := by decide +kernel
/-- The last runs the closing step only. -/
theorem phase3 : ∀ t : Fin grid0.N, ¬ t.val < 12 →
    ¬ k0_cond1 (grid0.coords t) = 1#1 ∧ ¬ k0_cond2 (grid0.coords t) = 1#1 ∧ k0_cond3 (grid0.coords t) = 1#1 := by decide +kernel

/-! ## The outputs -/

/-- The last grid point. -/
def tEnd : Fin cfg0.N := pnt 12 (by decide)

/-- The attended features, one column per instance. -/
def H2T : FVec F S64x8192 .f32 :=
  k0_pay276 (postTop (OTL m c)) (postSum (OTL m c)) (iblk m c 10 tEnd) (iblk m c 11 tEnd) (iblk m c 12 tEnd) (HT m c)
/-- The scores. -/
def SC : FVec F S1x8192 .f32 :=
  k0_pay277 (postTop (OTL m c)) (postSum (OTL m c)) (iblk m c 10 tEnd) (iblk m c 11 tEnd) (iblk m c 12 tEnd) (HT m c)
    (iblk m c 13 tEnd) (iblk m c 14 tEnd) (iblk m c 15 tEnd) (iblk m c 16 tEnd)
/-- Their largest. -/
def SMAX : FVec F S1 .f32 :=
  k0_pay278 (postTop (OTL m c)) (postSum (OTL m c)) (iblk m c 10 tEnd) (iblk m c 11 tEnd) (iblk m c 12 tEnd) (HT m c)
    (iblk m c 13 tEnd) (iblk m c 14 tEnd) (iblk m c 15 tEnd) (iblk m c 16 tEnd)
/-- The bag embedding, as a column. -/
def MOUT : Vec F S64x1 .f32 := k0_pay8 (SC m c) (SMAX m c) (H2T m c)
/-- The clipped probability. -/
def YOUT : Vec F S1x1 .f32 := k0_pay9 (SC m c) (SMAX m c) (H2T m c) (iblk m c 17 tEnd) (iblk m c 18 tEnd)

/-! ## The state between steps -/

/-- After `n` steps: the first eight steps fill the four feature arrays block by block, the next four the attention sums. -/
def Good (n : ℕ) (X22 : S8192x64.Idx → Elt F .bf16) (X23 : S72x8192.Idx → Elt F .bf16) (X24 : S64x8192.Idx → Elt F .f32)
    (X25 : S64x8192.Idx → Elt F .bf16) (X26 : S72x8192.Idx → Elt F .f32) : Prop :=
  (∀ y : S8192x64.Idx, (y 0).val < 1024 * min n 8 → X22 y = HB m c y) ∧ (∀ y : S72x8192.Idx, (y 1).val < 1024 * min n 8 → X23 y = HTB m c y)
  ∧ (∀ y : S64x8192.Idx, (y 1).val < 1024 * min n 8 → X24 y = HT m c y) ∧ (∀ y : S64x8192.Idx, (y 1).val < 1024 * min n 8 → X25 y = FTB m c y)
  ∧ (∀ y : S72x8192.Idx, (y 1).val < 2048 * (min n 12 - 8) → X26 y = OTL m c y)

/-- From eight steps on the feature arrays are complete. -/
theorem Good.full {n : ℕ} (hn : 8 ≤ n) {X22 : S8192x64.Idx → Elt F .bf16} {X23 : S72x8192.Idx → Elt F .bf16} {X24 : S64x8192.Idx → Elt F .f32}
    {X25 : S64x8192.Idx → Elt F .bf16} {X26 : S72x8192.Idx → Elt F .f32} (h : Good m c n X22 X23 X24 X25 X26) :
    X22 = HB m c ∧ X23 = HTB m c ∧ X24 = HT m c ∧ X25 = FTB m c := by
  have hm : 1024 * min n 8 = 8192 := by omega
  unfold Good at h
  rw [hm] at h
  exact ⟨funext fun y => h.1 y (y 0).isLt, funext fun y => h.2.1 y (y 1).isLt, funext fun y => h.2.2.1 y (y 1).isLt,
    funext fun y => h.2.2.2.1 y (y 1).isLt⟩

/-- The scratch arrays after `n` steps. -/
def Scr (n : ℕ) : sProp 𝕄 :=
  iprop(∃ X22 X23 X24 X25 X26 X27, ⌜Good m c n X22 X23 X24 X25 X26⌝ ∗
      owns (c : Thread nD τ) (Memref.whole cc0_scratch0) fullShare X22 ∗
      owns (c : Thread nD τ) (Memref.whole cc0_scratch1) fullShare X23 ∗
      owns (c : Thread nD τ) (Memref.whole cc0_scratch2) fullShare X24 ∗
      owns (c : Thread nD τ) (Memref.whole cc0_scratch3) fullShare X25 ∗
      owns (c : Thread nD τ) (Memref.whole cc0_scratch4) fullShare X26 ∗
      owns (c : Thread nD τ) (Memref.whole cc0_scratch5) fullShare X27)

/-- The operands of the first phase, at their blocks. -/
def InA (t : Fin cfg0.N) : sProp 𝕄 :=
  iprop(owns (c : Thread nD τ) (st0_0 t) fullShare (iblk m c 0 t) ∗
      owns (c : Thread nD τ) (st0_1 t) fullShare (iblk m c 1 t) ∗
      owns (c : Thread nD τ) (st0_2 t) fullShare (iblk m c 2 t) ∗
      owns (c : Thread nD τ) (st0_3 t) fullShare (iblk m c 3 t) ∗
      owns (c : Thread nD τ) (st0_4 t) fullShare (iblk m c 4 t) ∗
      owns (c : Thread nD τ) (st0_5 t) fullShare (iblk m c 5 t) ∗
      owns (c : Thread nD τ) (st0_6 t) fullShare (iblk m c 6 t) ∗
      owns (c : Thread nD τ) (st0_7 t) fullShare (iblk m c 7 t) ∗
      owns (c : Thread nD τ) (st0_8 t) fullShare (iblk m c 8 t) ∗
      owns (c : Thread nD τ) (st0_9 t) fullShare (iblk m c 9 t))
/-- The operands of the last phase, at their blocks. -/
def InB (t : Fin cfg0.N) : sProp 𝕄 :=
  iprop(owns (c : Thread nD τ) (st0_10 t) fullShare (iblk m c 10 t) ∗
      owns (c : Thread nD τ) (st0_11 t) fullShare (iblk m c 11 t) ∗
      owns (c : Thread nD τ) (st0_12 t) fullShare (iblk m c 12 t) ∗
      owns (c : Thread nD τ) (st0_13 t) fullShare (iblk m c 13 t) ∗
      owns (c : Thread nD τ) (st0_14 t) fullShare (iblk m c 14 t) ∗
      owns (c : Thread nD τ) (st0_15 t) fullShare (iblk m c 15 t) ∗
      owns (c : Thread nD τ) (st0_16 t) fullShare (iblk m c 16 t) ∗
      owns (c : Thread nD τ) (st0_17 t) fullShare (iblk m c 17 t) ∗
      owns (c : Thread nD τ) (st0_18 t) fullShare (iblk m c 18 t))

/-- A step of the first phase. -/
theorem step1 (t : Fin cfg0.N) (ht : t.val < 8) (K : PUnit → sProp 𝕄) :
    iprop(InA m c t ∗ Scr m c t.val ∗ (iprop(InA m c t ∗ Scr m c (t.val + 1)) -∗ K ⟨⟩))
      ⊢ wp frame (wpE (defs₀ (F := F)) Variants.none c none) Set.univ (bodyAt0 t) K := by
  obtain ⟨h1, h2, h3⟩ := phase1 t ht
  unfold InA Scr
  iintro ⟨⟨A0, A1, A2, A3, A4, A5, A6, A7, A8, A9⟩, ⟨%X22, %X23, %X24, %X25, %X26, %X27, %hG, S22, S23, S24, S25, S26, S27⟩, HK⟩
  iapply (runMlp c (grid0.coords t) h1 h2 h3 _ _ _ _ _ _ _ _ _ _ _ _ _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) X22 X23 X24 X25 K)
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [S22]; · iexact S22
  isplitl [S23]; · iexact S23
  isplitl [S24]; · iexact S24
  isplitl [S25]; · iexact S25
  iintro ⟨A0, A1, A2, A3, A4, A5, A6, A7, A8, A9, S22, S23, S24, S25⟩
  iapply HK
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  · iexists _, _, _, _, _, _
    isplitr; swap
    · isplitl [S22]; · iexact S22
      isplitl [S23]; · iexact S23
      isplitl [S24]; · iexact S24
      isplitl [S25]; · iexact S25
      isplitl [S26]; · iexact S26
      iexact S27
    ipureintro
    have e0 : (![1024 * (grid0.coords t 0).val, 0] : Fin 2 → ℕ) = ![1024 * t.val, 0] := by rw [coords_val]
    have e1 : (![0, 1024 * (grid0.coords t 0).val] : Fin 2 → ℕ) = ![0, 1024 * t.val] := by rw [coords_val]
    have hm : min t.val 8 = t.val := by omega
    have hm' : min (t.val + 1) 8 = t.val + 1 := by omega
    unfold Good at hG ⊢
    rw [hm] at hG
    rw [hm']
    obtain ⟨g1, g2, g3, g4, g5⟩ := hG
    refine ⟨rows_put (blkHb m c) t ht e0 g1, cols72_put (blkHtb m c) t ht e1 g2, cols64_put (blkHt m c) t ht e1 g3,
      cols64_put (blkFtb m c) t ht e1 g4, fun y hy => ?_⟩
    exact absurd hy (by omega)

/-- A step of the second phase. -/
theorem step2 (t : Fin cfg0.N) (ht : ¬ t.val < 8) (ht' : t.val < 12) (K : PUnit → sProp 𝕄) :
    iprop(Scr m c t.val ∗ (Scr m c (t.val + 1) -∗ K ⟨⟩))
      ⊢ wp frame (wpE (defs₀ (F := F)) Variants.none c none) Set.univ (bodyAt0 t) K := by
  obtain ⟨h1, h2, h3⟩ := phase2 t ht ht'
  unfold Scr
  iintro ⟨⟨%X22, %X23, %X24, %X25, %X26, %X27, %hG, S22, S23, S24, S25, S26, S27⟩, HK⟩
  iapply (runAtt c (grid0.coords t) h1 h2 h3 _ _ _ _ _ _ _ _ _ _ _ _ _ _ _ _ _ _ _ _ _ _ _ _ _ _ _ _ _ _ _ _ _ _ _ _ _ _ _ _ _ _ _ _ _ _ _ _ _ _ _ _ _ _
    X22 X23 X25 X26 K)
  unfold At
  isplitl [S22 S23 S25 S26]
  · isplitl [S22]; · iexact S22
    isplitl [S23]; · iexact S23
    isplitl [S25]; · iexact S25
    iexact S26
  iintro ⟨S22, S23, S25, S26⟩
  iapply HK
  iexists _, _, _, _, _, _
  isplitr; swap
  · isplitl [S22]; · iexact S22
    isplitl [S23]; · iexact S23
    isplitl [S24]; · iexact S24
    isplitl [S25]; · iexact S25
    isplitl [S26]; · iexact S26
    iexact S27
  ipureintro
  obtain ⟨rfl, rfl, rfl, rfl⟩ := hG.full m c (Nat.le_of_not_lt ht)
  have hm : min (t.val + 1) 12 - 8 = t.val + 1 - 8 := by omega
  refine ⟨fun _ _ => rfl, fun _ _ => rfl, fun _ _ => rfl, fun _ _ => rfl, ?_⟩
  rw [hm]
  refine attPut_agree (HB m c) (HTB m c) (FTB m c) t h2 fun y hy => ?_
  exact hG.2.2.2.2 y (by omega)

/-- The step of the last phase. -/
theorem step3 (t : Fin cfg0.N) (ht : ¬ t.val < 12) (d19 : Vec F S1x1 .f32) (d20 : Vec F S64x1 .f32) (K : PUnit → sProp 𝕄) :
    iprop(InB m c t ∗ Scr m c t.val ∗ owns (c : Thread nD τ) (st0_19 t) fullShare d19 ∗ owns (c : Thread nD τ) (st0_20 t) fullShare d20
        ∗ (iprop(InB m c t ∗ Scr m c (t.val + 1) ∗ owns (c : Thread nD τ) (st0_19 t) fullShare (YOUT m c)
            ∗ owns (c : Thread nD τ) (st0_20 t) fullShare (MOUT m c)) -∗ K ⟨⟩))
      ⊢ wp frame (wpE (defs₀ (F := F)) Variants.none c none) Set.univ (bodyAt0 t) K := by
  obtain ⟨h1, h2, h3⟩ := phase3 t ht
  have hN := t.isLt.trans_eq N_0
  have ht12 : t.val = 12 := by omega
  obtain rfl : t = tEnd := Fin.ext ht12
  unfold InB Scr
  iintro ⟨⟨B10, B11, B12, B13, B14, B15, B16, B17, B18⟩, ⟨%X22, %X23, %X24, %X25, %X26, %X27, %hG, S22, S23, S24, S25, S26, S27⟩, O19, O20, HK⟩
  iapply (runPost c (grid0.coords tEnd) h1 h2 h3 _ _ _ _ _ _ _ _ _ _ _ _ _ _ _ _ _ _ _ _ _ _ _ _ _ _ _ _ _ _ _ _ _ _ _ _ _ _ _ _ _ _ _ _ _ _ _ _ _ _ _ _ _ _
    (iblk m c 10 tEnd) (iblk m c 11 tEnd) (iblk m c 12 tEnd) (iblk m c 13 tEnd) (iblk m c 14 tEnd) (iblk m c 15 tEnd) (iblk m c 16 tEnd) (iblk m c 17 tEnd) (iblk m c 18 tEnd) d19 d20 X24 X26 X27 K)
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [O19]; · iexact O19
  isplitl [O20]; · iexact O20
  isplitl [S24]; · iexact S24
  isplitl [S26]; · iexact S26
  isplitl [S27]; · iexact S27
  iintro ⟨B10, B11, B12, B13, B14, B15, B16, B17, B18, O19, O20, S24, S26, S27⟩
  have hf := hG.full m c (by omega)
  have h26 : X26 = OTL m c := funext fun y => hG.2.2.2.2 y (by have := (y 1).isLt; rw [ht12]; exact this)
  have h24 := hf.2.2.1
  subst h26 h24
  iapply HK
  isplitl [B10 B11 B12 B13 B14 B15 B16 B17 B18]
  · isplitl [B10]; · iexact B10
    isplitl [B11]; · iexact B11
    isplitl [B12]; · iexact B12
    isplitl [B13]; · iexact B13
    isplitl [B14]; · iexact B14
    isplitl [B15]; · iexact B15
    isplitl [B16]; · iexact B16
    isplitl [B17]; · iexact B17
    iexact B18
  isplitl [S22 S23 S24 S25 S26 S27]
  · iexists _, _, _, _, _, _
    isplitr; swap
    · isplitl [S22]; · iexact S22
      isplitl [S23]; · iexact S23
      isplitl [S24]; · iexact S24
      isplitl [S25]; · iexact S25
      isplitl [S26]; · iexact S26
      iexact S27
    ipureintro
    refine ⟨fun y _ => congrFun hf.1 y, fun y _ => congrFun hf.2.1 y, fun _ _ => rfl, fun y _ => congrFun hf.2.2.2 y, fun _ _ => rfl⟩
  isplitl [O19]
  · iexact O19
  · iexact O20

end Cert.KernelIdeal.Hand
-- ==== Proof.Run.lean ====
/-
  The run: the proof data of the pipeline, the obligation of its body at every point, and the launch.
-/
module

public import proofs.«01_k».proof.Proof.Phases
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data: every input window keeps its block, the two outputs are written once, and the scratch arrays are what the
    steps so far made of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => YOUT m c
    | ⟨20, _⟩ => MOUT m c
    | ⟨n + 21, h⟩ => absurd (show n + 21 < 21 from h) (by omega)
  Φ t := iprop(Scr m c t.val ∗ ∃ r, prngReg c r)
  q _ := fullShare
  owed _ := 0

/-- The arrays at the start are those the region finds. -/
theorem A_eq (c : Dev nD) (w : Fin cfg0.W) : (dats m 0 c).A w = V m c (Pipeline.arrRef spec0 w) := by dsimp only [dats]

variable (c : Dev nD)

/-- Before a step, input window 0 holds its block (and so the other input windows, in the lines that follow). -/
theorem bef0 (t : Fin cfg0.N) (d) : (dats m 0 c).before 0 t d = iblk m c 0 t := before0_0_of m _ (A_eq m c 0) (fun _ => rfl) t d
theorem bef1 (t : Fin cfg0.N) (d) : (dats m 0 c).before 1 t d = iblk m c 1 t := before0_1_of m _ (A_eq m c 1) (fun _ => rfl) t d
theorem bef2 (t : Fin cfg0.N) (d) : (dats m 0 c).before 2 t d = iblk m c 2 t := before0_2_of m _ (A_eq m c 2) (fun _ => rfl) t d
theorem bef3 (t : Fin cfg0.N) (d) : (dats m 0 c).before 3 t d = iblk m c 3 t := before0_3_of m _ (A_eq m c 3) (fun _ => rfl) t d
theorem bef4 (t : Fin cfg0.N) (d) : (dats m 0 c).before 4 t d = iblk m c 4 t := before0_4_of m _ (A_eq m c 4) (fun _ => rfl) t d
theorem bef5 (t : Fin cfg0.N) (d) : (dats m 0 c).before 5 t d = iblk m c 5 t := before0_5_of m _ (A_eq m c 5) (fun _ => rfl) t d
theorem bef6 (t : Fin cfg0.N) (d) : (dats m 0 c).before 6 t d = iblk m c 6 t := before0_6_of m _ (A_eq m c 6) (fun _ => rfl) t d
theorem bef7 (t : Fin cfg0.N) (d) : (dats m 0 c).before 7 t d = iblk m c 7 t := before0_7_of m _ (A_eq m c 7) (fun _ => rfl) t d
theorem bef8 (t : Fin cfg0.N) (d) : (dats m 0 c).before 8 t d = iblk m c 8 t := before0_8_of m _ (A_eq m c 8) (fun _ => rfl) t d
theorem bef9 (t : Fin cfg0.N) (d) : (dats m 0 c).before 9 t d = iblk m c 9 t := before0_9_of m _ (A_eq m c 9) (fun _ => rfl) t d
theorem bef10 (t : Fin cfg0.N) (d) : (dats m 0 c).before 10 t d = iblk m c 10 t := before0_10_of m _ (A_eq m c 10) (fun _ => rfl) t d
theorem bef11 (t : Fin cfg0.N) (d) : (dats m 0 c).before 11 t d = iblk m c 11 t := before0_11_of m _ (A_eq m c 11) (fun _ => rfl) t d
theorem bef12 (t : Fin cfg0.N) (d) : (dats m 0 c).before 12 t d = iblk m c 12 t := before0_12_of m _ (A_eq m c 12) (fun _ => rfl) t d
theorem bef13 (t : Fin cfg0.N) (d) : (dats m 0 c).before 13 t d = iblk m c 13 t := before0_13_of m _ (A_eq m c 13) (fun _ => rfl) t d
theorem bef14 (t : Fin cfg0.N) (d) : (dats m 0 c).before 14 t d = iblk m c 14 t := before0_14_of m _ (A_eq m c 14) (fun _ => rfl) t d
theorem bef15 (t : Fin cfg0.N) (d) : (dats m 0 c).before 15 t d = iblk m c 15 t := before0_15_of m _ (A_eq m c 15) (fun _ => rfl) t d
theorem bef16 (t : Fin cfg0.N) (d) : (dats m 0 c).before 16 t d = iblk m c 16 t := before0_16_of m _ (A_eq m c 16) (fun _ => rfl) t d
theorem bef17 (t : Fin cfg0.N) (d) : (dats m 0 c).before 17 t d = iblk m c 17 t := before0_17_of m _ (A_eq m c 17) (fun _ => rfl) t d
theorem bef18 (t : Fin cfg0.N) (d) : (dats m 0 c).before 18 t d = iblk m c 18 t := before0_18_of m _ (A_eq m c 18) (fun _ => rfl) t d

/-- The outputs are written at the last point only (this line and the next three). -/
theorem idle19_early : ∀ t : Fin grid0.N, t.val < 12 → cfg0.idle 19 (grid0.coords t) = true := by decide +kernel
theorem idle20_early : ∀ t : Fin grid0.N, t.val < 12 → cfg0.idle 20 (grid0.coords t) = true := by decide +kernel
theorem idle19_end : ∀ t : Fin grid0.N, ¬ t.val < 12 → cfg0.idle 19 (grid0.coords t) = false := by decide +kernel
theorem idle20_end : ∀ t : Fin grid0.N, ¬ t.val < 12 → cfg0.idle 20 (grid0.coords t) = false := by decide +kernel

/-- What the step leaves of output window 19: at a point that does not write it, what was there. -/
def Held19 (t : Fin cfg0.N) : sProp 𝕄 :=
  match cfg0.idle 19 (cfg0.grid.coords t) with
  | true =>
    match (cfg0.win 19).flush t with
    | false => iprop(∃ d, owns (c : Thread nD τ) (st0_19 t) fullShare ((dats m 0 c).before 19 t d))
    | true => owns (c : Thread nD τ) (st0_19 t) fullShare ((dats m 0 c).after 19 t)
  | false => owns (c : Thread nD τ) (st0_19 t) fullShare ((dats m 0 c).after 19 t)

/-- Before the last point: what was there. -/
theorem held19_early (t : Fin cfg0.N) (ht : t.val < 12) :
    Held19 m c t = iprop(∃ d, owns (c : Thread nD τ) (st0_19 t) fullShare ((dats m 0 c).before 19 t d)) := by
  unfold Held19
  rw [show cfg0.idle 19 (cfg0.grid.coords t) = true from idle19_early t ht,
    show (cfg0.win 19).flush t = false from Bool.eq_false_iff.mpr fun h => by have := (flush0_19 t).mp h; omega]

/-- At the last point: the output. -/
theorem held19_end (t : Fin cfg0.N) (ht : ¬ t.val < 12) :
    Held19 m c t = owns (c : Thread nD τ) (st0_19 t) fullShare ((dats m 0 c).after 19 t) := by
  unfold Held19
  rw [show cfg0.idle 19 (cfg0.grid.coords t) = false from idle19_end t ht]

/-- What the step leaves of output window 20: at a point that does not write it, what was there. -/
def Held20 (t : Fin cfg0.N) : sProp 𝕄 :=
  match cfg0.idle 20 (cfg0.grid.coords t) with
  | true =>
    match (cfg0.win 20).flush t with
    | false => iprop(∃ d, owns (c : Thread nD τ) (st0_20 t) fullShare ((dats m 0 c).before 20 t d))
    | true => owns (c : Thread nD τ) (st0_20 t) fullShare ((dats m 0 c).after 20 t)
  | false => owns (c : Thread nD τ) (st0_20 t) fullShare ((dats m 0 c).after 20 t)

/-- Before the last point: what was there. -/
theorem held20_early (t : Fin cfg0.N) (ht : t.val < 12) :
    Held20 m c t = iprop(∃ d, owns (c : Thread nD τ) (st0_20 t) fullShare ((dats m 0 c).before 20 t d)) := by
  unfold Held20
  rw [show cfg0.idle 20 (cfg0.grid.coords t) = true from idle20_early t ht,
    show (cfg0.win 20).flush t = false from Bool.eq_false_iff.mpr fun h => by have := (flush0_20 t).mp h; omega]

/-- At the last point: the output. -/
theorem held20_end (t : Fin cfg0.N) (ht : ¬ t.val < 12) :
    Held20 m c t = owns (c : Thread nD τ) (st0_20 t) fullShare ((dats m 0 c).after 20 t) := by
  unfold Held20
  rw [show cfg0.idle 20 (cfg0.grid.coords t) = false from idle20_end t ht]

/-- What the body is called with at point `t`. -/
def bodyPre (t : Fin cfg0.N) : sProp 𝕄 :=
  iprop((dats m 0 c).Φ t.castSucc ∗ (dats m 0 c).owesAt () t.castSucc ∗
    (∃ d, owns (c : Thread nD τ) (st0_0 t) fullShare ((dats m 0 c).before 0 t d)) ∗
    (∃ d, owns (c : Thread nD τ) (st0_1 t) fullShare ((dats m 0 c).before 1 t d)) ∗
    (∃ d, owns (c : Thread nD τ) (st0_2 t) fullShare ((dats m 0 c).before 2 t d)) ∗
    (∃ d, owns (c : Thread nD τ) (st0_3 t) fullShare ((dats m 0 c).before 3 t d)) ∗
    (∃ d, owns (c : Thread nD τ) (st0_4 t) fullShare ((dats m 0 c).before 4 t d)) ∗
    (∃ d, owns (c : Thread nD τ) (st0_5 t) fullShare ((dats m 0 c).before 5 t d)) ∗
    (∃ d, owns (c : Thread nD τ) (st0_6 t) fullShare ((dats m 0 c).before 6 t d)) ∗
    (∃ d, owns (c : Thread nD τ) (st0_7 t) fullShare ((dats m 0 c).before 7 t d)) ∗
    (∃ d, owns (c : Thread nD τ) (st0_8 t) fullShare ((dats m 0 c).before 8 t d)) ∗
    (∃ d, owns (c : Thread nD τ) (st0_9 t) fullShare ((dats m 0 c).before 9 t d)) ∗
    (∃ d, owns (c : Thread nD τ) (st0_10 t) fullShare ((dats m 0 c).before 10 t d)) ∗
    (∃ d, owns (c : Thread nD τ) (st0_11 t) fullShare ((dats m 0 c).before 11 t d)) ∗
    (∃ d, owns (c : Thread nD τ) (st0_12 t) fullShare ((dats m 0 c).before 12 t d)) ∗
    (∃ d, owns (c : Thread nD τ) (st0_13 t) fullShare ((dats m 0 c).before 13 t d)) ∗
    (∃ d, owns (c : Thread nD τ) (st0_14 t) fullShare ((dats m 0 c).before 14 t d)) ∗
    (∃ d, owns (c : Thread nD τ) (st0_15 t) fullShare ((dats m 0 c).before 15 t d)) ∗
    (∃ d, owns (c : Thread nD τ) (st0_16 t) fullShare ((dats m 0 c).before 16 t d)) ∗
    (∃ d, owns (c : Thread nD τ) (st0_17 t) fullShare ((dats m 0 c).before 17 t d)) ∗
    (∃ d, owns (c : Thread nD τ) (st0_18 t) fullShare ((dats m 0 c).before 18 t d)) ∗
    (∃ d, owns (c : Thread nD τ) (st0_19 t) fullShare ((dats m 0 c).before 19 t d)) ∗
    (∃ d, owns (c : Thread nD τ) (st0_20 t) fullShare ((dats m 0 c).before 20 t d)))
/-- What the body returns at point `t`: every input block as it was, the outputs as `Held19` and `Held20` say. -/
def bodyPost (t : Fin cfg0.N) : sProp 𝕄 :=
  iprop((dats m 0 c).Φ t.succ ∗ (dats m 0 c).owesAt () t.succ ∗
    owns (c : Thread nD τ) (st0_0 t) fullShare (iblk m c 0 t) ∗
    owns (c : Thread nD τ) (st0_1 t) fullShare (iblk m c 1 t) ∗
    owns (c : Thread nD τ) (st0_2 t) fullShare (iblk m c 2 t) ∗
    owns (c : Thread nD τ) (st0_3 t) fullShare (iblk m c 3 t) ∗
    owns (c : Thread nD τ) (st0_4 t) fullShare (iblk m c 4 t) ∗
    owns (c : Thread nD τ) (st0_5 t) fullShare (iblk m c 5 t) ∗
    owns (c : Thread nD τ) (st0_6 t) fullShare (iblk m c 6 t) ∗
    owns (c : Thread nD τ) (st0_7 t) fullShare (iblk m c 7 t) ∗
    owns (c : Thread nD τ) (st0_8 t) fullShare (iblk m c 8 t) ∗
    owns (c : Thread nD τ) (st0_9 t) fullShare (iblk m c 9 t) ∗
    owns (c : Thread nD τ) (st0_10 t) fullShare (iblk m c 10 t) ∗
    owns (c : Thread nD τ) (st0_11 t) fullShare (iblk m c 11 t) ∗
    owns (c : Thread nD τ) (st0_12 t) fullShare (iblk m c 12 t) ∗
    owns (c : Thread nD τ) (st0_13 t) fullShare (iblk m c 13 t) ∗
    owns (c : Thread nD τ) (st0_14 t) fullShare (iblk m c 14 t) ∗
    owns (c : Thread nD τ) (st0_15 t) fullShare (iblk m c 15 t) ∗
    owns (c : Thread nD τ) (st0_16 t) fullShare (iblk m c 16 t) ∗
    owns (c : Thread nD τ) (st0_17 t) fullShare (iblk m c 17 t) ∗
    owns (c : Thread nD τ) (st0_18 t) fullShare (iblk m c 18 t) ∗
    Held19 m c t ∗
    Held20 m c t)

set_option maxHeartbeats 4000000 in
/-- The body at every point: one step of its phase. -/
theorem sound_body (t : Fin cfg0.N) :
    bodyPre m c t ⊢ wp frame (wpE (defs₀ (F := F)) Variants.none c none) Set.univ (bodyAt0 t) (fun _ => bodyPost m c t) := by
  unfold bodyPre bodyPost
  rw [show (dats m 0 c).owesAt () t.succ = (dats m 0 c).owesAt () t.castSucc from rfl,
    show (dats m 0 c).Φ t.castSucc = iprop(Scr m c t.val ∗ ∃ r, prngReg c r) from rfl,
    show (dats m 0 c).Φ t.succ = iprop(Scr m c (t.val + 1) ∗ ∃ r, prngReg c r) from rfl]
  simp only [bef0 m c t, bef1 m c t, bef2 m c t, bef3 m c t, bef4 m c t, bef5 m c t, bef6 m c t, bef7 m c t, bef8 m c t, bef9 m c t, bef10 m c t, bef11 m c t, bef12 m c t, bef13 m c t, bef14 m c t, bef15 m c t, bef16 m c t, bef17 m c t, bef18 m c t]
  iintro ⟨⟨HS, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, H19, H20⟩
  by_cases h8 : t.val < 8
  · rw [held19_early m c t (by omega), held20_early m c t (by omega)]
    iapply (step1 m c t h8)
    unfold InA
    isplitl [H0 H1 H2 H3 H4 H5 H6 H7 H8 H9]
    · skip
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [HS]; · iexact HS
    iintro ⟨⟨H0, H1, H2, H3, H4, H5, H6, H7, H8, H9⟩, HS⟩
    isplitl [HS Hg]
    · isplitl [HS]; · iexact HS
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  by_cases h12 : t.val < 12
  · rw [held19_early m c t h12, held20_early m c t h12]
    iapply (step2 m c t h8 h12)
    isplitl [HS]; · iexact HS
    iintro HS
    isplitl [HS Hg]
    · isplitl [HS]; · iexact HS
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · rw [held19_end m c t h12, held20_end m c t h12, show (dats m 0 c).after 19 t = YOUT m c from rfl,
      show (dats m 0 c).after 20 t = MOUT m c from rfl]
    icases H19 with ⟨%d19, H19⟩
    icases H20 with ⟨%d20, H20⟩
    iapply (step3 m c t h12 ((dats m 0 c).before 19 t d19) ((dats m 0 c).before 20 t d20))
    unfold InB
    isplitl [H10 H11 H12 H13 H14 H15 H16 H17 H18]
    · skip
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    isplitl [HS]; · iexact HS
    isplitl [H19]; · iexact H19
    isplitl [H20]; · iexact H20
    iintro ⟨⟨H10, H11, H12, H13, H14, H15, H16, H17, H18⟩, HS, H19, H20⟩
    isplitl [HS Hg]
    · isplitl [HS]; · iexact HS
      iexact Hg
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

/-- The body table's row at the point is the body. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The pipeline's obligation on its body. -/
theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- At the start the scratch arrays hold anything, and nothing is claimed of them. -/
theorem scr_in : (Pipeline.ΦA spec0 c : sProp 𝕄) ⊢ (dats m 0 c).Φ 0 := by
  rw [show (dats m 0 c).Φ 0 = iprop(Scr m c 0 ∗ ∃ r, prngReg c r) from rfl]
  unfold Pipeline.ΦA Scr
  rw [scopedRest0_eq]
  simp only [owns_whole]
  iintro ⟨⟨⟨%X0, S0⟩, ⟨%X1, S1⟩, ⟨%X2, S2⟩, ⟨%X3, S3⟩, ⟨%X4, S4⟩, ⟨%X5, S5⟩⟩, Hg⟩
  isplitl [S0 S1 S2 S3 S4 S5]
  · iexists X0, X1, X2, X3, X4, X5
    isplitr; swap
    · skip
      isplitl [S0]; · iexact S0
      isplitl [S1]; · iexact S1
      isplitl [S2]; · iexact S2
      isplitl [S3]; · iexact S3
      isplitl [S4]; · iexact S4
      iexact S5
    ipureintro
    refine ⟨fun _ h => ?_, fun _ h => ?_, fun _ h => ?_, fun _ h => ?_, fun _ h => ?_⟩ <;> exact absurd h (by simp)
  iexact Hg

/-- At the end what they hold is forgotten. -/
theorem scr_out : (dats m 0 c).Φ (Fin.last cfg0.N) ⊢ (Pipeline.ΦA spec0 c : sProp 𝕄) := by
  rw [show (dats m 0 c).Φ (Fin.last cfg0.N) = iprop(Scr m c cfg0.N ∗ ∃ r, prngReg c r) from rfl]
  unfold Pipeline.ΦA Scr
  rw [scopedRest0_eq]
  simp only [owns_whole]
  iintro ⟨⟨%X0, %X1, %X2, %X3, %X4, %X5, %hG, S0, S1, S2, S3, S4, S5⟩, Hg⟩
  isplitl [S0 S1 S2 S3 S4 S5]
  · skip
    isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

set_option backward.isDefEq.respectTransparency.types false in
/-- Every weakly fair execution from zero counters ends, with the arrays at what the pipeline and the lines after it leave. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track cfgs (dats m) 0 launch0 defs₀ Variants.none m ρ main
    (hbody := fun c => (body_obligation m c).loose) (hshare := fun c => (dats m 0 c).share_full fun _ => rfl)
    (howed := fun _ _ => rfl) (V₀ := V0 m) (opss := [hostOps1]) sfx_sub sfx_fresh sfx_keeps
    (hmain := hmain m Variants.none) (hA := A_eq m) (hin := scr_in m) (hout := scr_out m)
    (Q' := fun r => Pipeline.FramePost cfgs (dats m) 0 (Pipeline.afterTail₀ cfgs (dats m) 0 (V0 m) [hostOps1]) r ∧ r.2.sem = fun _ => 0)
    (hQ' := fun _ h => h)

end Cert.KernelIdeal.Hand
-- ==== Proof.Frames.lean ====
/-
  The three frames and the ledger of the one named constant.
-/
module

public import proofs.«01_k».proof.Defs
public import proofs.«01_k».proof.Proof.Run
public import proofs.«01_k».proof.Proof.Word.Run
public import proofs.«01_k».proof.Proof.Gen.ReferenceIdeal.Run
public import Idealize.ShloMosaic.Lib.Quiescent
public import Idealize.ShloMosaic.Lib.Claim

@[expose] public section

noncomputable section

namespace Cert.Proof

open Idealize.ShloMosaic Idealize.SL.Sem

/-- The kernel ends with its arguments untouched and every counter at zero. -/
theorem frame_p : Cert.quiescent_Kernel := fun m ρ _ =>
  θ_run_and (Cert.Kernel.Gen.frame_of m ρ (Cert.Kernel.Hand.dats m) (Cert.Kernel.Hand.A_eq m)
      ((θ_run Cert.Kernel.defs _ _).mono (fun _ h => h.1) (Cert.Kernel.Hand.run_main m ρ)))
    ((θ_run Cert.Kernel.defs _ _).mono (fun _ h => h.2) (Cert.Kernel.Hand.run_main m ρ))

/-- The same of the kernel over the extended reals. -/
theorem frame_pi : Cert.quiescent_KernelIdeal := fun m ρ _ =>
  θ_run_and (Cert.KernelIdeal.Gen.frame_of m ρ (Cert.KernelIdeal.Hand.dats m) (Cert.KernelIdeal.Hand.A_eq m)
      ((θ_run Cert.KernelIdeal.defs _ _).mono (fun _ h => h.1) (Cert.KernelIdeal.Hand.run_main m ρ)))
    ((θ_run Cert.KernelIdeal.defs _ _).mono (fun _ h => h.2) (Cert.KernelIdeal.Hand.run_main m ρ))

/-- The same of the reference. -/
theorem frame_ri : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The literal `log2 e` is the rounding of the real it is named after. -/
theorem preserves : Cert.preserves_Kernel_KernelIdeal :=
  IdealRules.named_const.statement Cert.KernelIdeal.κ "log2e" .f32 0x3FB8AA3B#32 (((Real.log 2)⁻¹ : ℝ) : EReal) rfl

end Cert.Proof

end
-- ==== Proof.Model.lean ====
/-
  The real functions the two programs compute when every argument is finite, and the facts about sums, maxima and
  normalised exponentials that make the two orders of computation equal.
-/
module

public import Mathlib.Data.EReal.Operations
public import Mathlib.Analysis.SpecialFunctions.Pow.Real
public import Mathlib.Analysis.SpecialFunctions.Trigonometric.DerivHyp
public import Idealize.ShloMosaic.PureOps.Ideal
public import Idealize.ShloMosaic.Lib.Pointwise

@[expose] public section

noncomputable section

namespace Cert.Model

open Idealize.ShloMosaic

/-! ## Sums and maxima of finite numbers -/

/-- A finite sum of reals is the same sum in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The larger of two reals is the larger of the two in the extended reals. -/
theorem coe_max (a b : ℝ) : max (a : EReal) (b : EReal) = ((max a b : ℝ) : EReal) :=
  (EReal.coe_strictMono.monotone.map_max).symm

/-- The maximum of finitely many reals, started from minus infinity, is minus infinity or a real. -/
theorem fold_max_cases {ι : Type} (s : Finset ι) (f : ι → ℝ) :
    (s = ∅ ∧ s.fold max (⊥ : EReal) (fun k => (f k : EReal)) = ⊥) ∨ ∃ c : ℝ, s.fold max (⊥ : EReal) (fun k => (f k : EReal)) = c := by
  classical
  induction s using Finset.induction_on with
  | empty => exact .inl ⟨rfl, rfl⟩
  | insert a s ha ih =>
    right
    rw [Finset.fold_insert ha]
    rcases ih with ⟨-, h⟩ | ⟨c, h⟩
    · exact ⟨f a, by rw [h]; exact max_eq_left bot_le⟩
    · exact ⟨max (f a) c, by rw [h, coe_max]⟩

/-- The maximum of a nonempty row of reals is a real. -/
theorem fold_max_coe {n : ℕ} [NeZero n] (f : Fin n → ℝ) :
    ∃ c : ℝ, (Finset.univ : Finset (Fin n)).fold max (⊥ : EReal) (fun k => (f k : EReal)) = c := by
  rcases fold_max_cases Finset.univ f with ⟨h, -⟩ | h
  · exact absurd (Finset.mem_univ (0 : Fin n)) (by rw [h]; exact Finset.notMem_empty _)
  · exact h

/-- A quotient of reals by a nonzero real is the same quotient in the extended reals. -/
theorem coe_div {a b : ℝ} (hb : b ≠ 0) : Ideal.div (a : EReal) (b : EReal) = ((a / b : ℝ) : EReal) := by
  rw [Ideal.div_coe hb, ← EReal.coe_mul, mul_one_div]

/-- The bits of minus infinity. -/
theorem ofBits_bot : Ideal.ofBits .f32 0xFF800000#32 = ⊥ := by simp [Ideal.ofBits, Ideal.ieee]

/-! ## Arrays of finite numbers -/

/-- The entries of the matrix `a` are the reals `r`. -/
abbrev Is2 {m n : ℕ} {φ : FTy} (a : FVec Ideal ⟨2, ![m, n]⟩ φ) (r : Fin m → Fin n → ℝ) : Prop :=
  ∀ i j, a (ix2 i j) = ((r i j : ℝ) : EReal)
/-- The entries of the row `a` are the reals `r`. -/
abbrev Is1 {n : ℕ} {φ : FTy} (a : FVec Ideal ⟨1, ![n]⟩ φ) (r : Fin n → ℝ) : Prop :=
  ∀ i, a (ix1 i) = ((r i : ℝ) : EReal)

/-- A sum of exponentials over a nonempty index set is positive. -/
theorem sum_exp_pos {n : ℕ} [NeZero n] (f : Fin n → ℝ) : 0 < ∑ k, Real.exp (f k) :=
  Finset.sum_pos (fun k _ => Real.exp_pos _) ⟨0, Finset.mem_univ _⟩

/-! ## Normalised exponentials -/

/-- The mean of `v` with weights proportional to `exp (f k)`. -/
def mean {n : ℕ} (f v : Fin n → ℝ) : ℝ := (∑ k, Real.exp (f k) * v k) / ∑ k, Real.exp (f k)

/-- The mean with the weights written second. -/
theorem mean_swap {n : ℕ} (f v : Fin n → ℝ) : mean f v = (∑ k, v k * Real.exp (f k)) / ∑ k, Real.exp (f k) := by
  unfold mean
  simp only [mul_comm]

/-- A constant taken off all the exponents does not change the mean. -/
theorem mean_shift {n : ℕ} (f v : Fin n → ℝ) (c : ℝ) : mean (fun k => f k - c) v = mean f v := by
  unfold mean
  simp only [sub_eq_add_neg, Real.exp_add, mul_right_comm _ (Real.exp (-c)), ← Finset.sum_mul]
  exact mul_div_mul_right _ _ (Real.exp_pos _).ne'

/-- The mean with each weight normalised first. -/
theorem mean_normalised {n : ℕ} (f v : Fin n → ℝ) :
    ∑ k, Real.exp (f k) / (∑ l, Real.exp (f l)) * v k = mean f v := by
  unfold mean
  rw [Finset.sum_div]
  exact Finset.sum_congr rfl fun k _ => div_mul_eq_mul_div _ _ _

/-- An affine map commutes with the mean. -/
theorem mean_affine {n : ℕ} [NeZero n] {J : ℕ} (f : Fin n → ℝ) (h : Fin n → Fin J → ℝ) (w : Fin J → ℝ) (b : ℝ) :
    (∑ i, w i * mean f (fun k => h k i)) + b = mean f (fun k => (∑ i, h k i * w i) + b) := by
  have hz := (sum_exp_pos f).ne'
  have e : ∑ k, Real.exp (f k) * ((∑ i, h k i * w i) + b) = (∑ i, w i * ∑ k, Real.exp (f k) * h k i) + b * ∑ k, Real.exp (f k) := by
    simp only [mul_add, Finset.sum_add_distrib, Finset.mul_sum]
    rw [Finset.sum_comm]
    congr 1
    · exact Finset.sum_congr rfl fun i _ => Finset.sum_congr rfl fun k _ => by ring
    · exact Finset.sum_congr rfl fun k _ => mul_comm _ _
  unfold mean
  rw [e, add_div, mul_div_cancel_right₀ _ hz, Finset.sum_div]
  simp only [mul_div_assoc]

/-! ## The model -/

/-- The arguments, all of them finite. -/
structure Par where
  x : Fin 8192 → Fin 1024 → ℝ
  w1 : Fin 1024 → Fin 256 → ℝ
  b1 : Fin 256 → ℝ
  w2 : Fin 256 → Fin 128 → ℝ
  b2 : Fin 128 → ℝ
  w3 : Fin 128 → Fin 64 → ℝ
  b3 : Fin 64 → ℝ
  wq : Fin 64 → Fin 8 → ℝ
  bq : Fin 8 → ℝ
  wk : Fin 64 → Fin 8 → ℝ
  bk : Fin 8 → ℝ
  wv : Fin 64 → Fin 64 → ℝ
  bv : Fin 64 → ℝ
  g : ℝ
  wa1 : Fin 64 → Fin 64 → ℝ
  ba1 : Fin 64 → ℝ
  wa2 : Fin 64 → ℝ
  ba2 : ℝ
  wc : Fin 64 → ℝ
  bc : ℝ

/-- A layer of the perceptron: an affine map and the positive part. -/
def layer {m n k : ℕ} (x : Fin m → Fin k → ℝ) (w : Fin k → Fin n → ℝ) (b : Fin n → ℝ) (i : Fin m) (j : Fin n) : ℝ :=
  max ((∑ l, x i l * w l j) + b j) 0

/-- An affine map of the rows. -/
def lin {m n k : ℕ} (x : Fin m → Fin k → ℝ) (w : Fin k → Fin n → ℝ) (b : Fin n → ℝ) (i : Fin m) (j : Fin n) : ℝ :=
  (∑ l, x i l * w l j) + b j

variable (p : Par)

/-- The features of instance `i`. -/
def Par.h : Fin 8192 → Fin 64 → ℝ := layer (layer (layer p.x p.w1 p.b1) p.w2 p.b2) p.w3 p.b3
/-- The attention score of query `i` at key `k`. -/
def Par.s (i k : Fin 8192) : ℝ := ∑ d, lin p.h p.wq p.bq i d * lin p.h p.wk p.bk k d
/-- What instance `i` attends to. -/
def Par.o (i : Fin 8192) (j : Fin 64) : ℝ := mean (p.s i) (fun k => lin p.h p.wv p.bv k j)
/-- The attended features. -/
def Par.h2 (i : Fin 8192) (j : Fin 64) : ℝ := p.g * p.o i j + p.h i j
/-- The pooling score of instance `i`. -/
def Par.sc (i : Fin 8192) : ℝ := (∑ l, Real.tanh (lin p.h2 p.wa1 p.ba1 i l) * p.wa2 l) + p.ba2
/-- The bag embedding. -/
def Par.M (j : Fin 64) : ℝ := mean p.sc (fun i => p.h2 i j)
/-- The classifier's logit. -/
def Par.z : ℝ := (∑ j, p.M j * p.wc j) + p.bc
/-- The clipped probability. -/
def Par.Y : EReal :=
  min (Ideal.ofBits .f32 0x3F7FFF58#32) (max (Ideal.ofBits .f32 0x3727C5AC#32) (((1 + Real.exp (-p.z))⁻¹ : ℝ) : EReal))

/-! ## The projected queries -/

/-- The score without the part that depends on the query alone, with the key's projection moved to the query's side. -/
def Par.f (i : Fin 8192) (l : Fin 64) : ℝ := (∑ j, (∑ d, p.wk l d * p.wq j d) * p.h i j) + ∑ d, p.wk l d * p.bq d

/-- The score is the product of the key's features with the projected query, up to a number that depends on the query only. -/
theorem Par.s_eq (i k : Fin 8192) : (∑ l, p.h k l * p.f i l) = p.s i k - ∑ d, lin p.h p.wq p.bq i d * p.bk d := by
  have hf : ∀ l, p.f i l = ∑ d, lin p.h p.wq p.bq i d * p.wk l d := fun l => by
    unfold Par.f lin
    simp only [add_mul, Finset.sum_add_distrib, Finset.sum_mul]
    rw [Finset.sum_comm]
    congr 1
    · exact Finset.sum_congr rfl fun d _ => Finset.sum_congr rfl fun j _ => by ring
    · exact Finset.sum_congr rfl fun d _ => mul_comm _ _
  rw [eq_sub_iff_add_eq]
  unfold Par.s
  simp only [hf, Finset.mul_sum]
  rw [Finset.sum_comm, ← Finset.sum_add_distrib]
  refine Finset.sum_congr rfl fun d _ => ?_
  rw [show lin p.h p.wk p.bk k d = (∑ l, p.h k l * p.wk l d) + p.bk d from rfl, mul_add, Finset.mul_sum]
  congr 1
  exact Finset.sum_congr rfl fun l _ => by ring

/-- Powers of two of the scores measured in bits are exponentials of the scores. -/
theorem rpow_bits (a : ℝ) : Real.rpow 2 (a * (Real.log 2)⁻¹) = Real.exp a := by
  change (2 : ℝ) ^ (a * (Real.log 2)⁻¹) = _
  rw [Real.rpow_def_of_pos (by norm_num)]
  congr 1
  have : Real.log 2 ≠ 0 := (Real.log_pos (by norm_num)).ne'
  field_simp

/-- The mean of the value columns, from sums of raw features: project after averaging instead of before. -/
theorem Par.o_eq (i : Fin 8192) (j : Fin 64) :
    (∑ l, p.wv l j * ((∑ k, p.h k l * Real.rpow 2 (∑ a, p.h k a * (p.f i a * (Real.log 2)⁻¹)))
        / ∑ k, Real.rpow 2 (∑ a, p.h k a * (p.f i a * (Real.log 2)⁻¹)))) + p.bv j = p.o i j := by
  have e : ∀ k, Real.rpow 2 (∑ a, p.h k a * (p.f i a * (Real.log 2)⁻¹))
      = Real.exp (p.s i k - ∑ d, lin p.h p.wq p.bq i d * p.bk d) := fun k => by
    rw [← Par.s_eq, ← rpow_bits, Finset.sum_mul]
    exact congrArg _ (Finset.sum_congr rfl fun a _ => by ring)
  simp only [e]
  unfold Par.o
  rw [← mean_shift _ _ (∑ d, lin p.h p.wq p.bq i d * p.bk d)]
  refine Eq.trans ?_ (mean_affine (fun k => p.s i k - ∑ d, lin p.h p.wq p.bq i d * p.bk d) p.h (fun l => p.wv l j) (p.bv j))
  refine congrArg (· + p.bv j) (Finset.sum_congr rfl fun l _ => congrArg (p.wv l j * ·) ?_)
  exact (mean_swap (fun k => p.s i k - ∑ d, lin p.h p.wq p.bq i d * p.bk d) fun k => p.h k l).symm

end Cert.Model

end
-- ==== Proof.Args.lean ====
/-
  The problem's arguments as arrays over the extended reals, and when their entries are the model's reals.
-/
module

public import proofs.«01_k».proof.Proof.Model

@[expose] public section

noncomputable section

namespace Cert.Model

open Idealize.ShloMosaic

/-- The twenty arguments. -/
structure Args where
  a0 : FVec Ideal ⟨2, ![8192, 1024]⟩ .f32
  a1 : FVec Ideal ⟨2, ![1024, 256]⟩ .f32
  a2 : FVec Ideal ⟨1, ![256]⟩ .f32
  a3 : FVec Ideal ⟨2, ![256, 128]⟩ .f32
  a4 : FVec Ideal ⟨1, ![128]⟩ .f32
  a5 : FVec Ideal ⟨2, ![128, 64]⟩ .f32
  a6 : FVec Ideal ⟨1, ![64]⟩ .f32
  a7 : FVec Ideal ⟨2, ![64, 8]⟩ .f32
  a8 : FVec Ideal ⟨1, ![8]⟩ .f32
  a9 : FVec Ideal ⟨2, ![64, 8]⟩ .f32
  a10 : FVec Ideal ⟨1, ![8]⟩ .f32
  a11 : FVec Ideal ⟨2, ![64, 64]⟩ .f32
  a12 : FVec Ideal ⟨1, ![64]⟩ .f32
  a13 : FVec Ideal ⟨1, ![1]⟩ .f32
  a14 : FVec Ideal ⟨2, ![64, 64]⟩ .f32
  a15 : FVec Ideal ⟨1, ![64]⟩ .f32
  a16 : FVec Ideal ⟨2, ![64, 1]⟩ .f32
  a17 : FVec Ideal ⟨1, ![1]⟩ .f32
  a18 : FVec Ideal ⟨2, ![64, 1]⟩ .f32
  a19 : FVec Ideal ⟨1, ![1]⟩ .f32

/-- The arguments' entries are the model's parameters. -/
structure Args.Is (A : Args) (p : Par) : Prop where
  x : Is2 A.a0 p.x
  w1 : Is2 A.a1 p.w1
  b1 : Is1 A.a2 p.b1
  w2 : Is2 A.a3 p.w2
  b2 : Is1 A.a4 p.b2
  w3 : Is2 A.a5 p.w3
  b3 : Is1 A.a6 p.b3
  wq : Is2 A.a7 p.wq
  bq : Is1 A.a8 p.bq
  wk : Is2 A.a9 p.wk
  bk : Is1 A.a10 p.bk
  wv : Is2 A.a11 p.wv
  bv : Is1 A.a12 p.bv
  g : A.a13 (ix1 0) = ((p.g : ℝ) : EReal)
  wa1 : Is2 A.a14 p.wa1
  ba1 : Is1 A.a15 p.ba1
  wa2 : ∀ l, A.a16 (ix2 l 0) = ((p.wa2 l : ℝ) : EReal)
  ba2 : A.a17 (ix1 0) = ((p.ba2 : ℝ) : EReal)
  wc : ∀ l, A.a18 (ix2 l 0) = ((p.wc l : ℝ) : EReal)
  bc : A.a19 (ix1 0) = ((p.bc : ℝ) : EReal)

/-- Every entry of the array is a real number. -/
def Finite {s : Shape} {φ : FTy} (a : FVec Ideal s φ) : Prop := ∀ i, a i = ((EReal.toReal (a i) : ℝ) : EReal)

/-- The parameters read off the arguments. -/
def Args.par (A : Args) : Par where
  x i j := (A.a0 (ix2 i j)).toReal
  w1 i j := (A.a1 (ix2 i j)).toReal
  b1 i := (A.a2 (ix1 i)).toReal
  w2 i j := (A.a3 (ix2 i j)).toReal
  b2 i := (A.a4 (ix1 i)).toReal
  w3 i j := (A.a5 (ix2 i j)).toReal
  b3 i := (A.a6 (ix1 i)).toReal
  wq i j := (A.a7 (ix2 i j)).toReal
  bq i := (A.a8 (ix1 i)).toReal
  wk i j := (A.a9 (ix2 i j)).toReal
  bk i := (A.a10 (ix1 i)).toReal
  wv i j := (A.a11 (ix2 i j)).toReal
  bv i := (A.a12 (ix1 i)).toReal
  g := (A.a13 (ix1 0)).toReal
  wa1 i j := (A.a14 (ix2 i j)).toReal
  ba1 i := (A.a15 (ix1 i)).toReal
  wa2 i := (A.a16 (ix2 i 0)).toReal
  ba2 := (A.a17 (ix1 0)).toReal
  wc i := (A.a18 (ix2 i 0)).toReal
  bc := (A.a19 (ix1 0)).toReal

/-- Every entry of every argument is a real number. -/
structure Args.Finite (A : Args) : Prop where
  a0 : Model.Finite A.a0
  a1 : Model.Finite A.a1
  a2 : Model.Finite A.a2
  a3 : Model.Finite A.a3
  a4 : Model.Finite A.a4
  a5 : Model.Finite A.a5
  a6 : Model.Finite A.a6
  a7 : Model.Finite A.a7
  a8 : Model.Finite A.a8
  a9 : Model.Finite A.a9
  a10 : Model.Finite A.a10
  a11 : Model.Finite A.a11
  a12 : Model.Finite A.a12
  a13 : Model.Finite A.a13
  a14 : Model.Finite A.a14
  a15 : Model.Finite A.a15
  a16 : Model.Finite A.a16
  a17 : Model.Finite A.a17
  a18 : Model.Finite A.a18
  a19 : Model.Finite A.a19

/-- Finite arguments are the parameters read off them. -/
theorem Args.is_par {A : Args} (h : A.Finite) : A.Is A.par where
  x _ _ := h.a0 _
  w1 _ _ := h.a1 _
  b1 _ := h.a2 _
  w2 _ _ := h.a3 _
  b2 _ := h.a4 _
  w3 _ _ := h.a5 _
  b3 _ := h.a6 _
  wq _ _ := h.a7 _
  bq _ := h.a8 _
  wk _ _ := h.a9 _
  bk _ := h.a10 _
  wv _ _ := h.a11 _
  bv _ := h.a12 _
  g := h.a13 _
  wa1 _ _ := h.a14 _
  ba1 _ := h.a15 _
  wa2 _ := h.a16 _
  ba2 := h.a17 _
  wc _ := h.a18 _
  bc := h.a19 _

end Cert.Model

end
-- ==== Proof.Finite.lean ====
/-
  What the precondition says of the arguments over the extended reals: every entry is a real number.
-/
module

public import proofs.«01_k».proof.Proof.Args
public import proofs.«01_k».proof.Pre_finite
public import Idealize.ShloMosaic.Lib.ReduceAll
public import Idealize.ShloMosaic.Lib.Pointwise
public import Idealize.ShloMosaic.Lib.IdealHost

@[expose] public section

noncomputable section

namespace Cert.Model

open Idealize.ShloMosaic Cert.Pre_finite Cert.Pre_finite.Facts

/-- An extended real whose absolute value compares below infinity is a real number. -/
theorem coe_toReal_of_abs_lt (a : Ideal .f32)
    (h : FloatOps.cmpf (F := Ideal) .olt (FloatOps.hostAbsf a) (Ideal.ofBits .f32 0x7F800000#32) = 1#1) :
    a = ((EReal.toReal a : ℝ) : EReal) := by
  have ht : Ideal.ofBits .f32 0x7F800000#32 = (⊤ : EReal) := by simp [Ideal.ofBits, Ideal.ieee]
  rw [ht] at h
  change Ideal.cmp .olt (max (a : EReal) (-(a : EReal))) ⊤ = 1#1 at h
  refine (EReal.coe_toReal ?_ ?_).symm
  · intro e
    rw [e] at h
    simp [Ideal.cmp] at h
  · intro e
    rw [e] at h
    simp [Ideal.cmp] at h

instance : Subsingleton S_.Idx := ⟨fun i j => funext fun a => a.elim0⟩

/-- If every entry's absolute value compares below infinity, every entry is a real number. -/
theorem finite_of {s : Shape} {axes : List (Fin s.rank)} (a : FVec Ideal s .f32) (hb : S_.BroadcastsInDim s (![] : Fin 0 → Fin s.rank)) (one : IVec S_ 1)
    (hr : s.ReducesTo axes S_) (hn : 0 < S_.numel) (j : S_.Idx)
    (h : Host.reduce IntOp.andi (cmpf .olt (Host.absf a) (broadcastInDim s ![] hb (constant S_ .f32 0x7F800000#32))) one hr hn j = 1#1) :
    Finite a := fun i => coe_toReal_of_abs_lt (a i) (Host.reduce_andi_all _ _ hr hn j h i)

/-- A conjunction that is one has both sides one. -/
theorem and_one {x y : IVec S_ 1} {j : S_.Idx} (h : andi x y j = 1#1) : x j = 1#1 ∧ y j = 1#1 := IntOp.andi_eq_one.1 h

/-- Arguments that satisfy the precondition have real entries. -/
theorem finite_args [Cert.Pre_finite.Facts] (A : Args)
    (h : Cert.Pre_finite.fn (F := Ideal) A.a0 A.a1 A.a2 A.a3 A.a4 A.a5 A.a6 A.a7 A.a8 A.a9 A.a10 A.a11 A.a12 A.a13 A.a14 A.a15 A.a16 A.a17 A.a18 A.a19 = fun _ => 1#1) : A.Finite := by
  replace h := congrFun h (fun a => a.elim0)
  unfold fn fn_part1 fn_part2 fn_part3 fn_part4 fn_part5 at h
  dsimp only at h
  obtain ⟨h, h19⟩ := and_one h
  obtain ⟨h, h18⟩ := and_one h
  obtain ⟨h, h17⟩ := and_one h
  obtain ⟨h, h16⟩ := and_one h
  obtain ⟨h, h15⟩ := and_one h
  obtain ⟨h, h14⟩ := and_one h
  obtain ⟨h, h13⟩ := and_one h
  obtain ⟨h, h12⟩ := and_one h
  obtain ⟨h, h11⟩ := and_one h
  obtain ⟨h, h10⟩ := and_one h
  obtain ⟨h, h9⟩ := and_one h
  obtain ⟨h, h8⟩ := and_one h
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h, h1⟩ := and_one h
  exact ⟨finite_of _ _ _ _ _ _ h,
    finite_of _ _ _ _ _ _ h1,
    finite_of _ _ _ _ _ _ h2,
    finite_of _ _ _ _ _ _ h3,
    finite_of _ _ _ _ _ _ h4,
    finite_of _ _ _ _ _ _ h5,
    finite_of _ _ _ _ _ _ h6,
    finite_of _ _ _ _ _ _ h7,
    finite_of _ _ _ _ _ _ h8,
    finite_of _ _ _ _ _ _ h9,
    finite_of _ _ _ _ _ _ h10,
    finite_of _ _ _ _ _ _ h11,
    finite_of _ _ _ _ _ _ h12,
    finite_of _ _ _ _ _ _ h13,
    finite_of _ _ _ _ _ _ h14,
    finite_of _ _ _ _ _ _ h15,
    finite_of _ _ _ _ _ _ h16,
    finite_of _ _ _ _ _ _ h17,
    finite_of _ _ _ _ _ _ h18,
    finite_of _ _ _ _ _ _ h19⟩

end Cert.Model

end
-- ==== Proof.Blocks.lean ====
/-
  The blocks the kernel's body reads, as the arguments: each of the eighteen whole operands and the eight blocks of instances.
-/
module

public import proofs.«01_k».proof.Proof.Args
public import proofs.«01_k».proof.Proof.State
public import Idealize.ShloMosaic.Lib.Pointwise
public import Idealize.ShloMosaic.Lib.Pipeline.ValueKit

@[expose] public section

set_option maxRecDepth 16384

noncomputable section

namespace Cert.KernelIdeal.Hand

open Cert.KernelIdeal Cert.KernelIdeal.Gen Cert.Model
open Idealize.ShloMosaic Idealize.ShloMosaic.TcCoe

variable (m : (ℓ : Loc nD τ sig) → Buf (Elt Ideal) ℓ) (c : Dev nD)

/-- The kernel's arguments. -/
def args : Args :=
  { a0 := m ((c.tc : Thread nD τ).loc main_arg0)
    a1 := m ((c.tc : Thread nD τ).loc main_arg1)
    a2 := m ((c.tc : Thread nD τ).loc main_arg2)
    a3 := m ((c.tc : Thread nD τ).loc main_arg3)
    a4 := m ((c.tc : Thread nD τ).loc main_arg4)
    a5 := m ((c.tc : Thread nD τ).loc main_arg5)
    a6 := m ((c.tc : Thread nD τ).loc main_arg6)
    a7 := m ((c.tc : Thread nD τ).loc main_arg7)
    a8 := m ((c.tc : Thread nD τ).loc main_arg8)
    a9 := m ((c.tc : Thread nD τ).loc main_arg9)
    a10 := m ((c.tc : Thread nD τ).loc main_arg10)
    a11 := m ((c.tc : Thread nD τ).loc main_arg11)
    a12 := m ((c.tc : Thread nD τ).loc main_arg12)
    a13 := m ((c.tc : Thread nD τ).loc main_arg13)
    a14 := m ((c.tc : Thread nD τ).loc main_arg14)
    a15 := m ((c.tc : Thread nD τ).loc main_arg15)
    a16 := m ((c.tc : Thread nD τ).loc main_arg16)
    a17 := m ((c.tc : Thread nD τ).loc main_arg17)
    a18 := m ((c.tc : Thread nD τ).loc main_arg18)
    a19 := m ((c.tc : Thread nD τ).loc main_arg19) }

/-- The array `b` as the region finds it, after the host operations before it. -/
theorem V_eq (b : Ref sig .tc) : V m c b = StableHlo.after hostOps0 (fun b => m (c, b)) (Proc.devRef .tc b) := by
  unfold V V0
  rw [List.flatten_cons, List.flatten_nil, List.append_nil]

/-- The instances are read block by block at the first eight points. -/
theorem index0 : ∀ t : Fin cfg0.N, win0_0.index t = ![min t.val 7, 0] := (by decide +kernel : ∀ t : Fin grid0.N, _)

/-- Block `t` of the instances. -/
theorem blk0 (t : Fin cfg0.N) (ht : t.val < 8) (i : Fin 1024) (j : Fin 1024) :
    (iblk m c 0 t : FVec Ideal S1024x1024 .f32) (ix2 i j) = (args m c).a0 (ix2 ⟨1024 * t.val + i.val, by omega⟩ j) := by
  unfold args
  blk_ext! [iblk, V_main_arg0, index0 t]

/-- Every other input has one block, its whole array (here and in `index2`, …, `index18`). -/
theorem index1 : ∀ t : Fin cfg0.N, win0_1.index t = ![0, 0] := (by decide +kernel : ∀ t : Fin grid0.N, _)

/-- Window 1 holds the weights of layer 1, whole, at every point. -/
theorem blk1 (t : Fin cfg0.N) (i : Fin 1024) (j : Fin 256) : (iblk m c 1 t : FVec Ideal S1024x256 .bf16) (ix2 i j) = (args m c).a1 (ix2 i j) := by
  unfold args
  blk_ext! [iblk, V, index1 t]

theorem index2 : ∀ t : Fin cfg0.N, win0_2.index t = ![0, 0] := (by decide +kernel : ∀ t : Fin grid0.N, _)

/-- Window 2 holds the bias of layer 1, whole, at every point. -/
theorem blk2 (t : Fin cfg0.N) (i : Fin 1) (j : Fin 256) : (iblk m c 2 t : FVec Ideal S1x256 .f32) (ix2 i j) = (args m c).a2 (ix1 j) := by
  unfold args
  refine (show V m c main_v1 ((win0_2.blk t).view.emb (ix2 i j)) = V m c main_v1 (ix2 i j) from congrArg _ (by blk_ext [index2 t])).trans ?_
  rw [V_eq]
  entry_read
  pointwise

theorem index3 : ∀ t : Fin cfg0.N, win0_3.index t = ![0, 0] := (by decide +kernel : ∀ t : Fin grid0.N, _)

/-- Window 3 holds the weights of layer 2, whole, at every point. -/
theorem blk3 (t : Fin cfg0.N) (i : Fin 256) (j : Fin 128) : (iblk m c 3 t : FVec Ideal S256x128 .bf16) (ix2 i j) = (args m c).a3 (ix2 i j) := by
  unfold args
  blk_ext! [iblk, V, index3 t]

theorem index4 : ∀ t : Fin cfg0.N, win0_4.index t = ![0, 0] := (by decide +kernel : ∀ t : Fin grid0.N, _)

/-- Window 4 holds the bias of layer 2, whole, at every point. -/
theorem blk4 (t : Fin cfg0.N) (i : Fin 1) (j : Fin 128) : (iblk m c 4 t : FVec Ideal S1x128 .f32) (ix2 i j) = (args m c).a4 (ix1 j) := by
  unfold args
  refine (show V m c main_v3 ((win0_4.blk t).view.emb (ix2 i j)) = V m c main_v3 (ix2 i j) from congrArg _ (by blk_ext [index4 t])).trans ?_
  rw [V_eq]
  entry_read
  pointwise

theorem index5 : ∀ t : Fin cfg0.N, win0_5.index t = ![0, 0] := (by decide +kernel : ∀ t : Fin grid0.N, _)

/-- Window 5 holds the weights of layer 3, whole, at every point. -/
theorem blk5 (t : Fin cfg0.N) (i : Fin 128) (j : Fin 64) : (iblk m c 5 t : FVec Ideal S128x64 .bf16) (ix2 i j) = (args m c).a5 (ix2 i j) := by
  unfold args
  blk_ext! [iblk, V, index5 t]

theorem index6 : ∀ t : Fin cfg0.N, win0_6.index t = ![0, 0] := (by decide +kernel : ∀ t : Fin grid0.N, _)

/-- Window 6 holds the bias of layer 3, whole, at every point. -/
theorem blk6 (t : Fin cfg0.N) (i : Fin 1) (j : Fin 64) : (iblk m c 6 t : FVec Ideal S1x64 .f32) (ix2 i j) = (args m c).a6 (ix1 j) := by
  unfold args
  refine (show V m c main_v5 ((win0_6.blk t).view.emb (ix2 i j)) = V m c main_v5 (ix2 i j) from congrArg _ (by blk_ext [index6 t])).trans ?_
  rw [V_eq]
  entry_read
  pointwise

theorem index7 : ∀ t : Fin cfg0.N, win0_7.index t = ![0, 0] := (by decide +kernel : ∀ t : Fin grid0.N, _)

/-- Window 7 holds the query weights, whole, at every point. -/
theorem blk7 (t : Fin cfg0.N) (i : Fin 64) (j : Fin 8) : (iblk m c 7 t : FVec Ideal S64x8 .f32) (ix2 i j) = (args m c).a7 (ix2 i j) := by
  unfold args
  blk_ext! [iblk, V, index7 t]

theorem index8 : ∀ t : Fin cfg0.N, win0_8.index t = ![0, 0] := (by decide +kernel : ∀ t : Fin grid0.N, _)

/-- Window 8 holds the key weights, whole, at every point. -/
theorem blk8 (t : Fin cfg0.N) (i : Fin 64) (j : Fin 8) : (iblk m c 8 t : FVec Ideal S64x8 .f32) (ix2 i j) = (args m c).a9 (ix2 i j) := by
  unfold args
  blk_ext! [iblk, V, index8 t]

theorem index9 : ∀ t : Fin cfg0.N, win0_9.index t = ![0, 0] := (by decide +kernel : ∀ t : Fin grid0.N, _)

/-- Window 9 holds the query bias, whole, at every point. -/
theorem blk9 (t : Fin cfg0.N) (i : Fin 1) (j : Fin 8) : (iblk m c 9 t : FVec Ideal S1x8 .f32) (ix2 i j) = (args m c).a8 (ix1 j) := by
  unfold args
  refine (show V m c main_v6 ((win0_9.blk t).view.emb (ix2 i j)) = V m c main_v6 (ix2 i j) from congrArg _ (by blk_ext [index9 t])).trans ?_
  rw [V_eq]
  entry_read
  pointwise

theorem index10 : ∀ t : Fin cfg0.N, win0_10.index t = ![0, 0] := (by decide +kernel : ∀ t : Fin grid0.N, _)

/-- Window 10 holds the value weights, whole, at every point. -/
theorem blk10 (t : Fin cfg0.N) (i : Fin 64) (j : Fin 64) : (iblk m c 10 t : FVec Ideal S64x64 .f32) (ix2 i j) = (args m c).a11 (ix2 i j) := by
  unfold args
  blk_ext! [iblk, V, index10 t]

theorem index11 : ∀ t : Fin cfg0.N, win0_11.index t = ![0, 0] := (by decide +kernel : ∀ t : Fin grid0.N, _)

/-- Window 11 holds the value bias, whole, at every point. -/
theorem blk11 (t : Fin cfg0.N) (i : Fin 64) (j : Fin 1) : (iblk m c 11 t : FVec Ideal S64x1 .f32) (ix2 i j) = (args m c).a12 (ix1 i) := by
  unfold args
  refine (show V m c main_v7 ((win0_11.blk t).view.emb (ix2 i j)) = V m c main_v7 (ix2 i j) from congrArg _ (by blk_ext [index11 t])).trans ?_
  rw [V_eq]
  entry_read
  pointwise

theorem index12 : ∀ t : Fin cfg0.N, win0_12.index t = ![0, 0] := (by decide +kernel : ∀ t : Fin grid0.N, _)

/-- Window 12 holds the residual scale, whole, at every point. -/
theorem blk12 (t : Fin cfg0.N) (i : Fin 1) (j : Fin 1) : (iblk m c 12 t : FVec Ideal S1x1 .f32) (ix2 i j) = (args m c).a13 (ix1 0) := by
  unfold args
  refine (show V m c main_v8 ((win0_12.blk t).view.emb (ix2 i j)) = V m c main_v8 (ix2 i j) from congrArg _ (by blk_ext [index12 t])).trans ?_
  rw [V_eq]
  entry_read
  pointwise

theorem index13 : ∀ t : Fin cfg0.N, win0_13.index t = ![0, 0] := (by decide +kernel : ∀ t : Fin grid0.N, _)

/-- Window 13 holds the first pooling weights, whole, at every point. -/
theorem blk13 (t : Fin cfg0.N) (i : Fin 64) (j : Fin 64) : (iblk m c 13 t : FVec Ideal S64x64 .f32) (ix2 i j) = (args m c).a14 (ix2 i j) := by
  unfold args
  blk_ext! [iblk, V, index13 t]

theorem index14 : ∀ t : Fin cfg0.N, win0_14.index t = ![0, 0] := (by decide +kernel : ∀ t : Fin grid0.N, _)

/-- Window 14 holds the first pooling bias, whole, at every point. -/
theorem blk14 (t : Fin cfg0.N) (i : Fin 64) (j : Fin 1) : (iblk m c 14 t : FVec Ideal S64x1 .f32) (ix2 i j) = (args m c).a15 (ix1 i) := by
  unfold args
  refine (show V m c main_v9 ((win0_14.blk t).view.emb (ix2 i j)) = V m c main_v9 (ix2 i j) from congrArg _ (by blk_ext [index14 t])).trans ?_
  rw [V_eq]
  entry_read
  pointwise

theorem index15 : ∀ t : Fin cfg0.N, win0_15.index t = ![0, 0] := (by decide +kernel : ∀ t : Fin grid0.N, _)

/-- Window 15 holds the second pooling weights, whole, at every point. -/
theorem blk15 (t : Fin cfg0.N) (i : Fin 64) (j : Fin 1) : (iblk m c 15 t : FVec Ideal S64x1 .f32) (ix2 i j) = (args m c).a16 (ix2 i j) := by
  unfold args
  blk_ext! [iblk, V, index15 t]

theorem index16 : ∀ t : Fin cfg0.N, win0_16.index t = ![0, 0] := (by decide +kernel : ∀ t : Fin grid0.N, _)

/-- Window 16 holds the second pooling bias, whole, at every point. -/
theorem blk16 (t : Fin cfg0.N) (i : Fin 1) (j : Fin 1) : (iblk m c 16 t : FVec Ideal S1x1 .f32) (ix2 i j) = (args m c).a17 (ix1 0) := by
  unfold args
  refine (show V m c main_v10 ((win0_16.blk t).view.emb (ix2 i j)) = V m c main_v10 (ix2 i j) from congrArg _ (by blk_ext [index16 t])).trans ?_
  rw [V_eq]
  entry_read
  pointwise

theorem index17 : ∀ t : Fin cfg0.N, win0_17.index t = ![0, 0] := (by decide +kernel : ∀ t : Fin grid0.N, _)

/-- Window 17 holds the classifier weights, whole, at every point. -/
theorem blk17 (t : Fin cfg0.N) (i : Fin 64) (j : Fin 1) : (iblk m c 17 t : FVec Ideal S64x1 .f32) (ix2 i j) = (args m c).a18 (ix2 i j) := by
  unfold args
  blk_ext! [iblk, V, index17 t]

theorem index18 : ∀ t : Fin cfg0.N, win0_18.index t = ![0, 0] := (by decide +kernel : ∀ t : Fin grid0.N, _)

/-- Window 18 holds the classifier bias, whole, at every point. -/
theorem blk18 (t : Fin cfg0.N) (i : Fin 1) (j : Fin 1) : (iblk m c 18 t : FVec Ideal S1x1 .f32) (ix2 i j) = (args m c).a19 (ix1 0) := by
  unfold args
  refine (show V m c main_v11 ((win0_18.blk t).view.emb (ix2 i j)) = V m c main_v11 (ix2 i j) from congrArg _ (by blk_ext [index18 t])).trans ?_
  rw [V_eq]
  entry_read
  pointwise

end Cert.KernelIdeal.Hand

end
-- ==== Proof.KerStages.lean ====
/-
  The kernel's pieces over the extended reals: what each computes of finite numbers, as the model's real number.
-/
module

public import proofs.«01_k».proof.Proof.Model
public import proofs.«01_k».proof.Proof.State
public import proofs.«01_k».proof.Proof.Post
public import Idealize.ShloMosaic.Lib.Pointwise

@[expose] public section

set_option maxRecDepth 16384

noncomputable section

namespace Cert.KernelIdeal.Hand

open Cert.KernelIdeal Cert.KernelIdeal.Gen Cert.Model
open Idealize.ShloMosaic Idealize.ShloMosaic.TcCoe

/-! ## The feature block -/

/-- The feature block: three layers of an instance block. -/
theorem pay10_is {x : FVec Ideal S1024x1024 .f32} {w1 : FVec Ideal S1024x256 .bf16} {b1 : FVec Ideal S1x256 .f32}
    {w2 : FVec Ideal S256x128 .bf16} {b2 : FVec Ideal S1x128 .f32} {w3 : FVec Ideal S128x64 .bf16} {b3 : FVec Ideal S1x64 .f32}
    {X W1 B1 W2 B2 W3 B3} (hx : Is2 x X) (hw1 : Is2 w1 W1) (hb1 : Is2 b1 fun _ => B1) (hw2 : Is2 w2 W2) (hb2 : Is2 b2 fun _ => B2)
    (hw3 : Is2 w3 W3) (hb3 : Is2 b3 fun _ => B3) :
    Is2 (k0_pay10 (F := Ideal) x w1 b1 w2 b2 w3 b3) (layer (layer (layer X W1 B1) W2 B2) W3 B3) := fun i j => by
  unfold layer
  pointwise [k0_pay10]
  simp only [hx _ _, hw1 _ _, hb1 _ _, hw2 _ _, hb2 _ _, hw3 _ _, hb3 _ _, zero_add, ← EReal.coe_mul, coe_sum, ← EReal.coe_add, ← EReal.coe_zero, coe_max]

/-- The copy of the block kept with instances as rows has the same entries. -/
theorem pay12_at (x : FVec Ideal S1024x1024 .f32) (w1 : FVec Ideal S1024x256 .bf16) (b1 : FVec Ideal S1x256 .f32)
    (w2 : FVec Ideal S256x128 .bf16) (b2 : FVec Ideal S1x128 .f32) (w3 : FVec Ideal S128x64 .bf16) (b3 : FVec Ideal S1x64 .f32)
    (i : Fin 1024) (j : Fin 64) :
    (k0_pay1 (F := Ideal) (k0_pay12 (F := Ideal) x w1 b1 w2 b2 w3 b3)) (ix2 i j) = k0_pay10 (F := Ideal) x w1 b1 w2 b2 w3 b3 (ix2 i j) := by
  pointwise [k0_pay1, k0_pay12]

/-- The transposed block has the same entries, rows and columns exchanged. -/
theorem pay11_at (x : FVec Ideal S1024x1024 .f32) (w1 : FVec Ideal S1024x256 .bf16) (b1 : FVec Ideal S1x256 .f32)
    (w2 : FVec Ideal S256x128 .bf16) (b2 : FVec Ideal S1x128 .f32) (w3 : FVec Ideal S128x64 .bf16) (b3 : FVec Ideal S1x64 .f32)
    (i : Fin 1024) (j : Fin 64) :
    k0_pay11 (F := Ideal) x w1 b1 w2 b2 w3 b3 (ix2 j i) = k0_pay10 (F := Ideal) x w1 b1 w2 b2 w3 b3 (ix2 i j) := by
  pointwise [k0_pay11]

/-- The copy of the transposed block kept for the residual has the same entries. -/
theorem pay3_at (v : FVec Ideal S64x1024 .f32) (j : Fin 64) (i : Fin 1024) : k0_pay3 (F := Ideal) v (ix2 j i) = v (ix2 j i) := by
  pointwise [k0_pay3]

/-- The transposed features with a row of ones and seven rows of zeros below. -/
def padded {n : ℕ} (H : Fin n → Fin 64 → ℝ) (a : Fin 72) (k : Fin n) : ℝ :=
  if h : a.val < 64 then H k ⟨a.val, h⟩ else if a.val < 65 then 1 else 0

/-- The transposed block is stored with a row of ones and seven rows of zeros below it. -/
theorem pay2_is {v : FVec Ideal S64x1024 .f32} {H : Fin 1024 → Fin 64 → ℝ} (hv : Is2 v fun j i => H i j) :
    Is2 (k0_pay2 (F := Ideal) v) (padded H) := fun a i => by
  unfold padded
  pointwise [k0_pay2]
  split
  · exact hv _ _
  · next h =>
    by_cases e : a.val = 64
    · simp [e]
    · rw [dif_neg (by omega), if_neg (by omega)]; rfl

/-- The projected queries of a block, in bits: keys' weights times queries' weights times features, plus the bias part, over `log 2`. -/
theorem pay4_is {v : FVec Ideal S64x1024 .f32} {wk wq wk' : FVec Ideal S64x8 .f32} {bq : FVec Ideal S1x8 .f32}
    {H : Fin 1024 → Fin 64 → ℝ} {WK WQ : Fin 64 → Fin 8 → ℝ} {BQ : Fin 8 → ℝ} (hv : Is2 v fun j i => H i j) (hwk : Is2 wk WK)
    (hwq : Is2 wq WQ) (hwk' : Is2 wk' WK) (hbq : Is2 bq fun _ => BQ) :
    Is2 (k0_pay4 (F := Ideal) v wk wq wk' bq) (fun l i => ((∑ j, (∑ d, WK l d * WQ j d) * H i j) + ∑ d, WK l d * BQ d) * (Real.log 2)⁻¹) := fun l i => by
  pointwise [k0_pay4]
  rw [show (Named.named (F := Ideal) κ "log2e" (φ := .f32) 0x3FB8AA3B#32 : EReal) = (((Real.log 2)⁻¹ : ℝ) : EReal) from
    IdealRules.named_const.ideal_named_scalar _ _ _ _ rfl]
  simp only [hv _ _, hwk _ _, hwq _ _, hwk' _ _, hbq _ _, zero_add, ← EReal.coe_mul, coe_sum, ← EReal.coe_add]

/-! ## The attention sums -/

/-- Chunk `r` of the keys, as rows. -/
theorem keyRows_is {X : S8192x64.Idx → Elt Ideal .bf16} {H : Fin 8192 → Fin 64 → ℝ} (hX : Is2 (φ := .bf16) X H) (r : Fin 16) :
    Is2 (φ := .bf16) (keyRows X r) (fun (k : Fin 512) l => H ⟨r.val * 512 + k.val, by omega⟩ l) := fun k l => by
  refine Eq.trans (congrArg X ?_) (hX _ _)
  refine funext fun a => ?_
  fin_cases a
  · exact Fin.ext (by change 512 * r.val + 1 * k.val = r.val * 512 + k.val; omega)
  · exact Fin.ext (by change 0 + 1 * l.val = l.val; omega)

/-- Chunk `r` of the keys, as columns. -/
theorem keyCols_is {X : S72x8192.Idx → Elt Ideal .bf16} {T : Fin 72 → Fin 8192 → ℝ} (hX : Is2 (φ := .bf16) X T) (r : Fin 16) :
    Is2 (φ := .bf16) (keyCols X r) (fun a (k : Fin 512) => T a ⟨r.val * 512 + k.val, by omega⟩) := fun i k => by
  refine Eq.trans (congrArg X ?_) (hX _ _)
  refine funext fun a => ?_
  fin_cases a
  · exact Fin.ext (by change 0 + 1 * i.val = i.val; omega)
  · exact Fin.ext (by change 512 * r.val + 1 * k.val = r.val * 512 + k.val; omega)

/-- Column block `q` of the projected queries. -/
theorem qTile_is {X : S64x8192.Idx → Elt Ideal .bf16} {P : Fin 64 → Fin 8192 → ℝ} (hX : Is2 (φ := .bf16) X P) (q : Fin 32) :
    Is2 (φ := .bf16) (qTile X q) (fun l (i : Fin 256) => P l ⟨256 * q.val + i.val, by omega⟩) := fun l i => by
  refine Eq.trans (congrArg X ?_) (hX _ _)
  refine funext fun a => ?_
  fin_cases a
  · exact Fin.ext (by change 0 + 1 * l.val = l.val; omega)
  · exact Fin.ext (by change 256 * q.val + 1 * i.val = 256 * q.val + i.val; omega)

/-- Two to a real exponent. -/
theorem exp2_real (r : ℝ) : FloatOps.exp2 (F := Ideal) (φ := .f32) ((r : ℝ) : EReal) = ((Real.rpow 2 r : ℝ) : EReal) := rfl

/-- A term of the attention sum: the features of key `k` at row `a`, times two to the score. -/
def term (H : Fin 8192 → Fin 64 → ℝ) (T : Fin 72 → Fin 8192 → ℝ) (ft : Fin 64 → ℝ) (a : Fin 72) (k : Fin 8192) : ℝ :=
  T a k * Real.rpow 2 (∑ l, H k l * ft l)

/-- What one chunk of keys adds to the attention sums of a column block. -/
theorem attPart_is {X : S8192x64.Idx → Elt Ideal .bf16} {Y : S72x8192.Idx → Elt Ideal .bf16} {ft : S64x256.Idx → Elt Ideal .bf16} {H T}
    {P : Fin 64 → Fin 256 → ℝ} (hX : Is2 (φ := .bf16) X H) (hY : Is2 (φ := .bf16) Y T) (hP : Is2 (φ := .bf16) ft P) (r : Fin 16) :
    Is2 (φ := .f32) (attPart X Y ft r) (fun a i => ∑ k : Fin 512, term H T (fun l => P l i) a ⟨r.val * 512 + k.val, by omega⟩) := fun a i => by
  have h1 := keyRows_is hX r
  have h2 := keyCols_is hY r
  unfold term
  pointwise [attPart]
  simp only [h1 _ _, h2 _ _, hP _ _, zero_add, ← EReal.coe_mul, coe_sum, exp2_real]

/-- The attention sums of a column block after the chunks `0, …, n`. -/
theorem attSum_is {X : S8192x64.Idx → Elt Ideal .bf16} {Y : S72x8192.Idx → Elt Ideal .bf16} {ft : S64x256.Idx → Elt Ideal .bf16} {H T}
    {P : Fin 64 → Fin 256 → ℝ} (hX : Is2 (φ := .bf16) X H) (hY : Is2 (φ := .bf16) Y T) (hP : Is2 (φ := .bf16) ft P) (a : Fin 72) (i : Fin 256) :
    ∀ (n : ℕ) (h : n < 16), attSum X Y ft n h (ix2 a i)
      = ((∑ r : Fin (n + 1), ∑ k : Fin 512, term H T (fun l => P l i) a ⟨r.val * 512 + k.val, by omega⟩ : ℝ) : EReal)
  | 0, h => by
    rw [Fin.sum_univ_one]
    exact attPart_is hX hY hP ⟨0, h⟩ a i
  | n + 1, h => by
    rw [Fin.sum_univ_castSucc, EReal.coe_add]
    exact congrArg₂ (· + ·) (attSum_is hX hY hP a i n _) (attPart_is hX hY hP ⟨n + 1, h⟩ a i)

/-- The attention sums of a column block over all keys. -/
theorem attTile_is {X : S8192x64.Idx → Elt Ideal .bf16} {Y : S72x8192.Idx → Elt Ideal .bf16} {ft : S64x256.Idx → Elt Ideal .bf16} {H T}
    {P : Fin 64 → Fin 256 → ℝ} (hX : Is2 (φ := .bf16) X H) (hY : Is2 (φ := .bf16) Y T) (hP : Is2 (φ := .bf16) ft P) :
    Is2 (φ := .f32) (attTile X Y ft) (fun a i => ∑ k, term H T (fun l => P l i) a k) := fun a i => by
  exact (attSum_is hX hY hP a i 15 _).trans (congrArg (Real.toEReal) (Fin.sum_univ_tiles 16 512 rfl (term H T (fun l => P l i) a)).symm)

/-- The attention sums of all queries over all keys. -/
theorem sums_is {X : S8192x64.Idx → Elt Ideal .bf16} {Y : S72x8192.Idx → Elt Ideal .bf16} {Z : S64x8192.Idx → Elt Ideal .bf16} {H T}
    {P : Fin 64 → Fin 8192 → ℝ} (hX : Is2 (φ := .bf16) X H) (hY : Is2 (φ := .bf16) Y T) (hZ : Is2 (φ := .bf16) Z P) :
    Is2 (φ := .f32) (sums X Y Z) (fun a i => ∑ k, term H T (fun l => P l i) a k) := fun a i => by
  have hq : i.val / 256 < 32 := by omega
  have h := attTile_is hX hY (qTile_is hZ ⟨i.val / 256, hq⟩) a ⟨i.val % 256, Nat.mod_lt _ (by decide)⟩
  have e : (⟨256 * (i.val / 256) + i.val % 256, by omega⟩ : Fin 8192) = i := Fin.ext (Nat.div_add_mod _ _)
  simp only [e] at h
  exact h

/-! ## The last step -/

/-- The first 64 rows of the attention sums. -/
theorem postTop_is {X : S72x8192.Idx → Elt Ideal .f32} {T : Fin 72 → Fin 8192 → ℝ} (hX : Is2 (φ := .f32) X T) :
    Is2 (φ := .f32) (postTop X) (fun (l : Fin 64) i => T ⟨l.val, by omega⟩ i) := fun l i => by
  refine Eq.trans (congrArg X ?_) (hX _ _)
  refine funext fun a => ?_
  fin_cases a
  · exact Fin.ext (by change 0 + 1 * l.val = l.val; omega)
  · exact Fin.ext (by change 0 + 1 * i.val = i.val; omega)

/-- Row 64 of the attention sums, which holds the normalisers. -/
theorem postSum_is {X : S72x8192.Idx → Elt Ideal .f32} {T : Fin 72 → Fin 8192 → ℝ} (hX : Is2 (φ := .f32) X T) :
    Is2 (φ := .f32) (postSum X) (fun (_ : Fin 1) i => T 64 i) := fun l i => by
  refine Eq.trans (congrArg X ?_) (hX _ _)
  refine funext fun a => ?_
  fin_cases a
  · exact Fin.ext (by change 64 + 1 * l.val = 64; omega)
  · exact Fin.ext (by change 0 + 1 * i.val = i.val; omega)

/-- The attended features, from the attention sums, their normalisers and the features. -/
theorem pay275_is {o : FVec Ideal S64x8192 .f32} {d : FVec Ideal S1x8192 .f32} {wv : FVec Ideal S64x64 .f32} {bv : FVec Ideal S64x1 .f32}
    {g : FVec Ideal S1x1 .f32} {h : FVec Ideal S64x8192 .f32} {O : Fin 64 → Fin 8192 → ℝ} {D : Fin 8192 → ℝ} {WV : Fin 64 → Fin 64 → ℝ}
    {BV : Fin 64 → ℝ} {G : ℝ} {H : Fin 64 → Fin 8192 → ℝ} (ho : Is2 o O) (hd : Is2 d fun _ => D) (hwv : Is2 wv WV)
    (hbv : Is2 bv fun j _ => BV j) (hg : Is2 g fun _ _ => G) (hh : Is2 h H) (hD : ∀ i, D i ≠ 0) :
    Is2 (k0_pay275 (F := Ideal) o d wv bv g h) (fun j i => G * ((∑ l, WV l j * (O l i / D i)) + BV j) + H j i) := fun j i => by
  pointwise [k0_pay275]
  simp only [ho _ _, hd _ _, hwv _ _, hbv _ _, hg _ _, hh _ _, coe_div (hD i), zero_add, ← EReal.coe_mul, coe_sum, ← EReal.coe_add]

/-- The copy of the attended features that is stored has the same entries. -/
theorem pay276_at (o : FVec Ideal S64x8192 .f32) (d : FVec Ideal S1x8192 .f32) (wv : FVec Ideal S64x64 .f32) (bv : FVec Ideal S64x1 .f32)
    (g : FVec Ideal S1x1 .f32) (h : FVec Ideal S64x8192 .f32) (j : Fin 64) (i : Fin 8192) :
    k0_pay276 (F := Ideal) o d wv bv g h (ix2 j i) = k0_pay275 (F := Ideal) o d wv bv g h (ix2 j i) := by
  pointwise [k0_pay276]

/-- The pooling scores of the attended features. -/
theorem pay277_is {o : FVec Ideal S64x8192 .f32} {d : FVec Ideal S1x8192 .f32} {wv : FVec Ideal S64x64 .f32} {bv : FVec Ideal S64x1 .f32}
    {g : FVec Ideal S1x1 .f32} {h : FVec Ideal S64x8192 .f32} {wa1 : FVec Ideal S64x64 .f32} {ba1 wa2 : FVec Ideal S64x1 .f32}
    {ba2 : FVec Ideal S1x1 .f32} {H2 : Fin 64 → Fin 8192 → ℝ} {WA : Fin 64 → Fin 64 → ℝ} {BA W : Fin 64 → ℝ} {B : ℝ}
    (hh : Is2 (k0_pay275 (F := Ideal) o d wv bv g h) H2) (hwa : Is2 wa1 WA) (hba : Is2 ba1 fun j _ => BA j)
    (hw : Is2 wa2 fun j _ => W j) (hb : Is2 ba2 fun _ _ => B) :
    Is2 (k0_pay277 (F := Ideal) o d wv bv g h wa1 ba1 wa2 ba2)
      (fun _ i => (∑ l, W l * Real.tanh ((∑ j, WA j l * H2 j i) + BA l)) + B) := fun z i => by
  pointwise [k0_pay277]
  simp only [hh _ _, hwa _ _, hba _ _, hw _ _, hb _ _, zero_add, Ideal.tanh_coe, ← EReal.coe_mul, coe_sum, ← EReal.coe_add]

/-- The largest pooling score is a real. -/
theorem pay278_is {o : FVec Ideal S64x8192 .f32} {d : FVec Ideal S1x8192 .f32} {wv : FVec Ideal S64x64 .f32} {bv : FVec Ideal S64x1 .f32}
    {g : FVec Ideal S1x1 .f32} {h : FVec Ideal S64x8192 .f32} {wa1 : FVec Ideal S64x64 .f32} {ba1 wa2 : FVec Ideal S64x1 .f32}
    {ba2 : FVec Ideal S1x1 .f32} {S : Fin 8192 → ℝ} (hs : Is2 (k0_pay277 (F := Ideal) o d wv bv g h wa1 ba1 wa2 ba2) fun _ => S) :
    ∃ c : ℝ, Is1 (k0_pay278 (F := Ideal) o d wv bv g h wa1 ba1 wa2 ba2) fun _ => c := by
  obtain ⟨c, hc⟩ := fold_max_coe S
  refine ⟨c, fun z => ?_⟩
  pointwise [k0_pay278]
  simp only [hs _ _, ofBits_bot, hc]

/-- The pooled features are the mean of the attended ones, weighted by the exponentials of the pooling scores. -/
theorem pay8_is {s : FVec Ideal S1x8192 .f32} {mx : FVec Ideal S1 .f32} {h : FVec Ideal S64x8192 .f32} {S : Fin 8192 → ℝ} {c : ℝ}
    {H : Fin 8192 → Fin 64 → ℝ} (hs : Is2 s fun _ => S) (hm : Is1 mx fun _ => c) (hh : Is2 h fun j i => H i j) :
    Is2 (k0_pay8 (F := Ideal) s mx h) (fun j _ => mean S fun i => H i j) := fun j z => by
  refine Eq.trans ?_ (congrArg (Real.toEReal) ((mean_swap _ _).symm.trans (mean_shift S (fun i => H i j) c)))
  pointwise [k0_pay8]
  simp only [hs _ _, hm _, hh _ _, zero_add, ← EReal.coe_sub, Ideal.exp_coe, ← EReal.coe_mul, coe_sum,
    coe_div (sum_exp_pos fun i => S i - c).ne']

/-- The clipped probability of the pooled features. -/
theorem pay9_is {s : FVec Ideal S1x8192 .f32} {mx : FVec Ideal S1 .f32} {h : FVec Ideal S64x8192 .f32} {w : FVec Ideal S64x1 .f32}
    {b : FVec Ideal S1x1 .f32} {M W : Fin 64 → ℝ} {B : ℝ} (hM : Is2 (k0_pay8 (F := Ideal) s mx h) fun j _ => M j)
    (hw : Is2 w fun j _ => W j) (hb : Is2 b fun _ _ => B) (y z : Fin 1) :
    k0_pay9 (F := Ideal) s mx h w b (ix2 y z) = min (Ideal.ofBits .f32 0x3F7FFF58#32) (max (Ideal.ofBits .f32 0x3727C5AC#32)
      (((1 + Real.exp (-((∑ j, M j * W j) + B)))⁻¹ : ℝ) : EReal)) := by
  pointwise [k0_pay9]
  simp only [hM _ _, hw _ _, hb _ _, zero_add, ← EReal.coe_mul, coe_sum, ← EReal.coe_add, Ideal.logistic_coe]

end Cert.KernelIdeal.Hand

end
-- ==== Proof.KerVal.lean ====
/-
  The kernel's arrays and its two results are the model's, for arguments that are real numbers.
-/
module

public import proofs.«01_k».proof.Proof.Blocks
public import proofs.«01_k».proof.Proof.KerStages
public import proofs.«01_k».proof.Proof.Phases

@[expose] public section

set_option maxRecDepth 16384

noncomputable section

namespace Cert.KernelIdeal.Hand

open Cert.KernelIdeal Cert.KernelIdeal.Gen Cert.Model
open Idealize.ShloMosaic Idealize.ShloMosaic.TcCoe

variable {m : (ℓ : Loc nD τ sig) → Buf (Elt Ideal) ℓ} {c : Dev nD} {p : Par}

/-! ## The features -/

/-- An index is its block's start plus its place in the block. -/
theorem block_index (i : Fin 8192) : (⟨1024 * (i.val / 1024) + i.val % 1024, by omega⟩ : Fin 8192) = i := Fin.ext (Nat.div_add_mod _ _)

/-- The features of the instances of block `t`. -/
theorem feats_is (h : (args m c).Is p) (t : Fin cfg0.N) (ht : t.val < 8) :
    Is2 (k0_pay10 (F := Ideal) (iblk m c 0 t) (iblk m c 1 t) (iblk m c 2 t) (iblk m c 3 t) (iblk m c 4 t) (iblk m c 5 t) (iblk m c 6 t))
      (fun (i : Fin 1024) j => p.h ⟨1024 * t.val + i.val, by omega⟩ j) :=
  pay10_is (X := fun (i : Fin 1024) j => p.x ⟨1024 * t.val + i.val, by omega⟩ j)
    (fun i j => (blk0 m c t ht i j).trans (h.x _ _)) (fun i j => (blk1 m c t i j).trans (h.w1 _ _))
    (fun i j => (blk2 m c t i j).trans (h.b1 _)) (fun i j => (blk3 m c t i j).trans (h.w2 _ _))
    (fun i j => (blk4 m c t i j).trans (h.b2 _)) (fun i j => (blk5 m c t i j).trans (h.w3 _ _))
    (fun i j => (blk6 m c t i j).trans (h.b3 _))

/-- The same features, transposed. -/
theorem featT_is (h : (args m c).Is p) (t : Fin cfg0.N) (ht : t.val < 8) :
    Is2 (featT m c t) (fun j (i : Fin 1024) => p.h ⟨1024 * t.val + i.val, by omega⟩ j) := fun j i =>
  (pay11_at _ _ _ _ _ _ _ i j).trans (feats_is h t ht i j)

/-- The first scratch array holds all features. -/
theorem HB_is (h : (args m c).Is p) : Is2 (φ := .bf16) (HB m c) p.h := fun i j => by
  have e := (pay12_at _ _ _ _ _ _ _ ⟨i.val % 1024, Nat.mod_lt _ (by decide)⟩ j).trans
    (feats_is h (blkOf i) (show i.val / 1024 < 8 by omega) ⟨i.val % 1024, Nat.mod_lt _ (by decide)⟩ j)
  refine Eq.trans e (congrArg (fun k => ((p.h k j : ℝ) : EReal)) (block_index i))

/-- The third holds their transpose. -/
theorem HT_is (h : (args m c).Is p) : Is2 (φ := .f32) (HT m c) fun j i => p.h i j := fun j i => by
  have e := (pay3_at _ j ⟨i.val % 1024, Nat.mod_lt _ (by decide)⟩).trans
    (featT_is h (blkOf i) (show i.val / 1024 < 8 by omega) j ⟨i.val % 1024, Nat.mod_lt _ (by decide)⟩)
  refine Eq.trans e (congrArg (fun k => ((p.h k j : ℝ) : EReal)) (block_index i))

/-- The second holds their transpose with the row of ones below. -/
theorem HTB_is (h : (args m c).Is p) : Is2 (φ := .bf16) (HTB m c) (padded p.h) := fun a i => by
  have e := pay2_is (H := fun (i' : Fin 1024) j => p.h ⟨1024 * (i.val / 1024) + i'.val, by omega⟩ j)
    (featT_is h (blkOf i) (show i.val / 1024 < 8 by omega)) a ⟨i.val % 1024, Nat.mod_lt _ (by decide)⟩
  refine Eq.trans e (congrArg (Real.toEReal) ?_)
  unfold padded
  simp only [block_index i]

/-- The fourth holds the projected queries in bits. -/
theorem FTB_is (h : (args m c).Is p) : Is2 (φ := .bf16) (FTB m c) fun l i => p.f i l * (Real.log 2)⁻¹ := fun l i => by
  have e := pay4_is (H := fun (i' : Fin 1024) j => p.h ⟨1024 * (i.val / 1024) + i'.val, by omega⟩ j)
    (featT_is h (blkOf i) (show i.val / 1024 < 8 by omega))
    (fun a b => (blk8 m c (blkOf i) a b).trans (h.wk _ _)) (fun a b => (blk7 m c (blkOf i) a b).trans (h.wq _ _))
    (fun a b => (blk8 m c (blkOf i) a b).trans (h.wk _ _)) (fun a b => (blk9 m c (blkOf i) a b).trans (h.bq _))
    l ⟨i.val % 1024, Nat.mod_lt _ (by decide)⟩
  refine Eq.trans e (congrArg (Real.toEReal) ?_)
  simp only [block_index i]
  rfl

/-! ## Attention -/

/-- The weight of key `k` for query `i`, up to a factor of the query alone. -/
def wt (p : Par) (i k : Fin 8192) : ℝ := Real.rpow 2 (∑ a, p.h k a * (p.f i a * (Real.log 2)⁻¹))

/-- The weights of a query do not sum to zero. -/
theorem wt_sum_ne (p : Par) (i : Fin 8192) : (∑ k, wt p i k) ≠ 0 := by
  have e : ∀ k, wt p i k = Real.exp (∑ a, p.h k a * p.f i a) := fun k => by
    unfold wt
    rw [← rpow_bits, Finset.sum_mul]
    simp only [mul_assoc]
  simp only [e]
  exact (sum_exp_pos _).ne'

/-- The fifth scratch array holds the weighted sums of the features, and of the ones, over all keys. -/
theorem OTL_is (h : (args m c).Is p) :
    Is2 (φ := .f32) (OTL m c) fun a i => ∑ k, padded p.h a k * wt p i k := sums_is (HB_is h) (HTB_is h) (FTB_is h)

/-- Its upper rows: the weighted sums of the features. -/
theorem top_is (h : (args m c).Is p) : Is2 (φ := .f32) (postTop (OTL m c)) fun l i => ∑ k, p.h k l * wt p i k := fun l i => by
  refine (postTop_is (OTL_is h) l i).trans (congrArg (Real.toEReal) (Finset.sum_congr rfl fun k _ => congrArg (· * wt p i k) ?_))
  unfold padded
  rw [dif_pos l.isLt]

/-- The row below them: the sums of the weights. -/
theorem bottom_is (h : (args m c).Is p) : Is2 (φ := .f32) (postSum (OTL m c)) fun (_ : Fin 1) i => ∑ k, wt p i k := fun z i => by
  refine (postSum_is (OTL_is h) z i).trans (congrArg (Real.toEReal) (Finset.sum_congr rfl fun k _ => ?_))
  unfold padded
  rw [dif_neg (by decide), if_pos (by decide), one_mul]

/-! ## The last step -/

/-- The attended features are the model's. -/
theorem attended_is (h : (args m c).Is p) :
    Is2 (k0_pay275 (F := Ideal) (postTop (OTL m c)) (postSum (OTL m c)) (iblk m c 10 tEnd) (iblk m c 11 tEnd) (iblk m c 12 tEnd) (HT m c))
      fun j i => p.h2 i j := fun j i => by
  have e := pay275_is (top_is h) (bottom_is h) (WV := fun l j => p.wv l j) (fun a b => (blk10 m c tEnd a b).trans (h.wv _ _))
    (fun a b => (blk11 m c tEnd a b).trans (h.bv _)) (fun a b => (blk12 m c tEnd a b).trans h.g) (HT_is h) (wt_sum_ne p) j i
  exact e.trans (congrArg (fun r : ℝ => ((p.g * r + p.h i j : ℝ) : EReal)) (p.o_eq i j))

/-- So are those that are stored. -/
theorem H2T_is (h : (args m c).Is p) : Is2 (H2T m c) fun j i => p.h2 i j := fun j i =>
  (pay276_at _ _ _ _ _ _ j i).trans (attended_is h j i)

/-- The pooling scores are the model's. -/
theorem SC_is (h : (args m c).Is p) : Is2 (SC m c) fun (_ : Fin 1) i => p.sc i := fun z i => by
  have e := pay277_is (attended_is h) (fun a b => (blk13 m c tEnd a b).trans (h.wa1 _ _))
    (fun a b => (blk14 m c tEnd a b).trans (h.ba1 _)) (fun a b => (blk15 m c tEnd a b).trans ((congrArg _ (by rw [Subsingleton.elim b 0])).trans (h.wa2 a)))
    (fun a b => (blk16 m c tEnd a b).trans h.ba2) z i
  refine e.trans (congrArg (Real.toEReal) ?_)
  unfold Par.sc lin
  simp only [mul_comm]

/-- The second output is the model's pooled features. -/
theorem MOUT_is (h : (args m c).Is p) : Is2 (φ := .f32) (MOUT m c) fun j (_ : Fin 1) => p.M j := by
  obtain ⟨k, hk⟩ := pay278_is (SC_is h)
  exact pay8_is (SC_is h) hk (H2T_is h)

/-- The first output is the model's clipped probability. -/
theorem YOUT_is (h : (args m c).Is p) (y z : Fin 1) : (YOUT m c : FVec Ideal S1x1 .f32) (ix2 y z) = p.Y :=
  pay9_is (MOUT_is h) (fun a b => (blk17 m c tEnd a b).trans ((congrArg _ (by rw [Subsingleton.elim b 0])).trans (h.wc a)))
    (fun a b => (blk18 m c tEnd a b).trans h.bc) y z

end Cert.KernelIdeal.Hand

end
-- ==== Proof.Result.lean ====
/-
  The kernel's two results after the run are the model's, for arguments that are real numbers.
-/
module

public import proofs.«01_k».proof.Proof.KerVal
public import proofs.«01_k».proof.Proof.Run
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.Model
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- The array of the clipped probability after the pipeline: the last point writes it whole. -/
theorem arr19 : (dats m 0 c).arrAt 19 cfg0.N = YOUT m c :=
  Pipeline.Dat.arrAt_eq_of_after_last (dats m 0 c) 19 tEnd (by decide +kernel) (YOUT m c) fun j =>
    show YOUT m c _ = YOUT m c _ from congrArg _ (by blk_ext)

/-- The array of the pooled features after the pipeline. -/
theorem arr20 : (dats m 0 c).arrAt 20 cfg0.N = MOUT m c :=
  Pipeline.Dat.arrAt_eq_of_after_last (dats m 0 c) 20 tEnd (by decide +kernel) (MOUT m c) fun j =>
    show MOUT m c _ = MOUT m c _ from congrArg _ (by blk_ext)

/-- The first output's array when the pipeline is done. -/
theorem exit19 : Pipeline.withArrays spec0 c (V0 m c) (fun w => (dats m 0 c).arrAt w cfg0.N) (Proc.devRef .tc main_v12_0) = YOUT m c :=
  (Pipeline.withArrays_arr spec0 (by decide) c (V0 m c) _ 19).trans (arr19 m c)

/-- The second output's array when the pipeline is done. -/
theorem exit20 : Pipeline.withArrays spec0 c (V0 m c) (fun w => (dats m 0 c).arrAt w cfg0.N) (Proc.devRef .tc main_v12_1) = MOUT m c :=
  (Pipeline.withArrays_arr spec0 (by decide) c (V0 m c) _ 20).trans (arr20 m c)

/-- The first result after the closing lines: the one entry of its array. -/
theorem tail13 (i : S_.Idx) : (Pipeline.afterTail₀ cfgs (dats m) 0 (V0 m) [hostOps1] c main_v13 : FVec Ideal S_ .f32) i
    = (YOUT m c : FVec Ideal S1x1 .f32) (ix2 0 0) := by
  unfold Pipeline.afterTail₀
  rw [List.flatten_cons, List.flatten_nil, List.append_nil]
  entry_read
  rw [exit19]
  pointwise

/-- The second result after the closing lines: its array without the axis of extent one. -/
theorem tail14 (j : Fin 64) : (Pipeline.afterTail₀ cfgs (dats m) 0 (V0 m) [hostOps1] c main_v14 : FVec Ideal S64 .f32) (ix1 j)
    = (MOUT m c : FVec Ideal S64x1 .f32) (ix2 j 0) := by
  unfold Pipeline.afterTail₀
  rw [List.flatten_cons, List.flatten_nil, List.append_nil]
  entry_read
  rw [exit20]
  pointwise

/-- The run ends with the model's probability in the first result and its pooled features in the second. -/
theorem results {p : Dev nD → Par} (h : ∀ c, (args m c).Is (p c)) :
    θ_run defs (onTc (τ := τ) (main (F := Ideal))) ⟨m, fun _ => 0, ρ⟩ (fun r => ∀ c : Dev nD,
      r.2.mem ((c.tc : Thread nD τ).loc main_v13) = (fun _ => (p c).Y : FVec Ideal S_ .f32)
      ∧ r.2.mem ((c.tc : Thread nD τ).loc main_v14) = (fun i => (((p c).M (i 0) : ℝ) : EReal) : FVec Ideal S64 .f32)) := by
  refine (θ_run defs _ _).mono (fun r hr c => ⟨?_, ?_⟩) (run_main m ρ)
  · refine ((hr.1 c).2 main_v13 (Pipeline.mem_restRefs_of main_v13 (by decide) (by decide))).trans (funext fun i => ?_)
    exact (tail13 m c i).trans (YOUT_is (h c) 0 0)
  · refine ((hr.1 c).2 main_v14 (Pipeline.mem_restRefs_of main_v14 (by decide) (by decide))).trans (funext fun i => ?_)
    obtain ⟨j, rfl⟩ : ∃ j : Fin 64, i = ix1 j := ⟨i 0, eq_ix1 (n0 := 64) i⟩
    exact (tail14 m c j).trans (MOUT_is (h c) j 0)

end Cert.KernelIdeal.Hand

end
-- ==== Proof.RefStages.lean ====
/-
  The reference over the extended reals: stage by stage, what it computes of finite arguments is the model's real number.
-/
module

public import proofs.«01_k».proof.Proof.Model
public import proofs.«01_k».proof.Proof.Gen.ReferenceIdeal.Run
public import Idealize.ShloMosaic.Lib.Pointwise
public import Idealize.ShloMosaic.Lib.IdealHost

@[expose] public section

set_option maxRecDepth 16384

noncomputable section

namespace Cert.ReferenceIdeal.Hand

open Cert.ReferenceIdeal Cert.ReferenceIdeal.Gen Cert.ReferenceIdeal.Value Cert.Model
open Idealize.ShloMosaic Idealize.ShloMosaic.TcCoe

/-- The first layer. -/
def layer1 (x : FVec Ideal S8192x1024 .f32) (w : FVec Ideal S1024x256 .f32) (b : FVec Ideal S256 .f32) : FVec Ideal S8192x256 .f32 :=
  maximumf (addf (Host.dotGeneral dot_S8192x1024_S1024x256_S8192x256_1_0_0_1_n_n none x w) (broadcastInDim S8192x256 ![0, 1] bcast_S1x256_S8192x256_0_1 (broadcastInDim S1x256 ![1] bcast_S256_S1x256_1 b))) (broadcastInDim S8192x256 ![] bcast_S_S8192x256 (constant S_ .f32 0x00000000#32))

/-- It is a layer of the model. -/
theorem layer1_is {x : FVec Ideal S8192x1024 .f32} {w : FVec Ideal S1024x256 .f32} {b : FVec Ideal S256 .f32} {X W B}
    (hx : Is2 x X) (hw : Is2 w W) (hb : Is1 b B) : Is2 (layer1 x w b) (layer X W B) := fun i j => by
  unfold layer
  pointwise [layer1]
  simp only [hx _ _, hw _ _, hb _, ← EReal.coe_mul, coe_sum, ← EReal.coe_add, ← EReal.coe_zero, coe_max]

/-- The second layer. -/
def layer2 (x : FVec Ideal S8192x256 .f32) (w : FVec Ideal S256x128 .f32) (b : FVec Ideal S128 .f32) : FVec Ideal S8192x128 .f32 :=
  maximumf (addf (Host.dotGeneral dot_S8192x256_S256x128_S8192x128_1_0_0_1_n_n none x w) (broadcastInDim S8192x128 ![0, 1] bcast_S1x128_S8192x128_0_1 (broadcastInDim S1x128 ![1] bcast_S128_S1x128_1 b))) (broadcastInDim S8192x128 ![] bcast_S_S8192x128 (constant S_ .f32 0x00000000#32))

/-- It is a layer of the model. -/
theorem layer2_is {x : FVec Ideal S8192x256 .f32} {w : FVec Ideal S256x128 .f32} {b : FVec Ideal S128 .f32} {X W B}
    (hx : Is2 x X) (hw : Is2 w W) (hb : Is1 b B) : Is2 (layer2 x w b) (layer X W B) := fun i j => by
  unfold layer
  pointwise [layer2]
  simp only [hx _ _, hw _ _, hb _, ← EReal.coe_mul, coe_sum, ← EReal.coe_add, ← EReal.coe_zero, coe_max]

/-- The third layer. -/
def layer3 (x : FVec Ideal S8192x128 .f32) (w : FVec Ideal S128x64 .f32) (b : FVec Ideal S64 .f32) : FVec Ideal S8192x64 .f32 :=
  maximumf (addf (Host.dotGeneral dot_S8192x128_S128x64_S8192x64_1_0_0_1_n_n none x w) (broadcastInDim S8192x64 ![0, 1] bcast_S1x64_S8192x64_0_1 (broadcastInDim S1x64 ![1] bcast_S64_S1x64_1 b))) (broadcastInDim S8192x64 ![] bcast_S_S8192x64 (constant S_ .f32 0x00000000#32))

/-- It is a layer of the model. -/
theorem layer3_is {x : FVec Ideal S8192x128 .f32} {w : FVec Ideal S128x64 .f32} {b : FVec Ideal S64 .f32} {X W B}
    (hx : Is2 x X) (hw : Is2 w W) (hb : Is1 b B) : Is2 (layer3 x w b) (layer X W B) := fun i j => by
  unfold layer
  pointwise [layer3]
  simp only [hx _ _, hw _ _, hb _, ← EReal.coe_mul, coe_sum, ← EReal.coe_add, ← EReal.coe_zero, coe_max]

/-- A projection to eight dimensions. -/
def proj8 (x : FVec Ideal S8192x64 .f32) (w : FVec Ideal S64x8 .f32) (b : FVec Ideal S8 .f32) : FVec Ideal S8192x8 .f32 :=
  addf (Host.dotGeneral dot_S8192x64_S64x8_S8192x8_1_0_0_1_n_n none x w) (broadcastInDim S8192x8 ![0, 1] bcast_S1x8_S8192x8_0_1 (broadcastInDim S1x8 ![1] bcast_S8_S1x8_1 b))

/-- It is an affine map of the features. -/
theorem proj8_is {x : FVec Ideal S8192x64 .f32} {w : FVec Ideal S64x8 .f32} {b : FVec Ideal S8 .f32} {X W B}
    (hx : Is2 x X) (hw : Is2 w W) (hb : Is1 b B) : Is2 (proj8 x w b) (lin X W B) := fun i j => by
  unfold lin
  pointwise [proj8]
  simp only [hx _ _, hw _ _, hb _, ← EReal.coe_mul, coe_sum, ← EReal.coe_add, ← EReal.coe_zero, coe_max]

/-- A projection to sixty-four dimensions. -/
def proj64 (x : FVec Ideal S8192x64 .f32) (w : FVec Ideal S64x64 .f32) (b : FVec Ideal S64 .f32) : FVec Ideal S8192x64 .f32 :=
  addf (Host.dotGeneral dot_S8192x64_S64x64_S8192x64_1_0_0_1_n_n none x w) (broadcastInDim S8192x64 ![0, 1] bcast_S1x64_S8192x64_0_1 (broadcastInDim S1x64 ![1] bcast_S64_S1x64_1 b))

/-- It is an affine map of the features. -/
theorem proj64_is {x : FVec Ideal S8192x64 .f32} {w : FVec Ideal S64x64 .f32} {b : FVec Ideal S64 .f32} {X W B}
    (hx : Is2 x X) (hw : Is2 w W) (hb : Is1 b B) : Is2 (proj64 x w b) (lin X W B) := fun i j => by
  unfold lin
  pointwise [proj64]
  simp only [hx _ _, hw _ _, hb _, ← EReal.coe_mul, coe_sum, ← EReal.coe_add, ← EReal.coe_zero, coe_max]

/-- The scores of every query at every key. -/
def scores (q k : FVec Ideal S8192x8 .f32) : FVec Ideal S8192x8192 .f32 :=
  Host.dotGeneral dot_S8192x8_S8x8192_S8192x8192_1_0_0_1_n_n none q (transpose S8x8192 [1, 0] k transposes_S8192x8_S8x8192_1_0)

/-- A score is the product of a projected query with a projected key. -/
theorem scores_is {q k : FVec Ideal S8192x8 .f32} {Q K} (hq : Is2 q Q) (hk : Is2 k K) :
    Is2 (scores q k) (fun i k => ∑ d, Q i d * K k d) := fun i j => by
  pointwise [scores]
  simp only [hq _ _, hk _ _, ← EReal.coe_mul, coe_sum]

/-- The largest score of each row. -/
def rowMax (x : FVec Ideal S8192x8192 .f32) : FVec Ideal S8192 .f32 :=
  Host.reduce FloatOps.maximumf x (constant S_ .f32 0xFF800000#32) reducesTo_S8192x8192_S8192_d1 h_S_

/-- The largest score of a row, as a maximum started from the word of minus infinity. -/
theorem rowMax_at (x : FVec Ideal S8192x8192 .f32) (i : Fin 8192) :
    rowMax x (ix1 i) = Finset.univ.fold max (Ideal.ofBits .f32 0xFF800000#32) fun k : Fin 8192 => x (ix2 i k) := by
  pointwise [rowMax]

/-- Exponentials of a row of scores, the row's largest taken off first. -/
def expRows (x : FVec Ideal S8192x8192 .f32) (c : FVec Ideal S8192 .f32) : FVec Ideal S8192x8192 .f32 :=
  Host.exp (subf x (broadcastInDim S8192x8192 ![0, 1] bcast_S8192x1_S8192x8192_0_1 (broadcastInDim S8192x1 ![0] bcast_S8192_S8192x1_0 (maximumf (broadcastInDim S8192 ![] bcast_S_S8192 (constant S_ .f32 0xFF800000#32)) c))))

/-- For real scores and real row shifts the entries are real exponentials. -/
theorem expRows_is {x : FVec Ideal S8192x8192 .f32} {c : FVec Ideal S8192 .f32} {X C} (hx : Is2 x X) (hc : Is1 c C) :
    Is2 (expRows x c) (fun i k => Real.exp (X i k - C i)) := fun i j => by
  pointwise [expRows]
  simp only [hx _ _, ofBits_bot, hc _, max_bot_left, ← EReal.coe_sub, Ideal.exp_coe]

/-- For real scores the largest of a row is a real. -/
theorem rowMax_is {x : FVec Ideal S8192x8192 .f32} {X} (hx : Is2 x X) : ∃ c : Fin 8192 → ℝ, Is1 (rowMax x) c := by
  choose c hc using fun i => fold_max_coe (X i)
  refine ⟨c, fun i => ?_⟩
  rw [rowMax_at, ← hc i, ofBits_bot]
  simp only [hx _ _]

/-- The rows divided by their sums. -/
def softRows (e : FVec Ideal S8192x8192 .f32) : FVec Ideal S8192x8192 .f32 :=
  Host.divf e (broadcastInDim S8192x8192 ![0, 1] bcast_S8192x1_S8192x8192_0_1 (broadcastInDim S8192x1 ![0] bcast_S8192_S8192x1_0 (Host.reduceAdd e (constant S_ .f32 0x00000000#32) reducesTo_S8192x8192_S8192_d1 h_S_)))

/-- A row of exponentials divided by its sum. -/
theorem softRows_is {e : FVec Ideal S8192x8192 .f32} {X : Fin 8192 → Fin 8192 → ℝ} (hx : Is2 e (fun i k => Real.exp (X i k))) :
    Is2 (softRows e) (fun i k => Real.exp (X i k) / ∑ l, Real.exp (X i l)) := fun i j => by
  pointwise [softRows]
  simp only [hx _ _, coe_sum, zero_add]
  exact coe_div (sum_exp_pos _).ne'

/-- The attended features: the scaled attention output added to the features. -/
def attend (g : FVec Ideal S1 .f32) (a : FVec Ideal S8192x8192 .f32) (v h : FVec Ideal S8192x64 .f32) : FVec Ideal S8192x64 .f32 :=
  addf (mulf (broadcastInDim S8192x64 ![] bcast_S_S8192x64 (shapeCast _ g shapeCasts_S1_S_)) (Host.dotGeneral dot_S8192x8192_S8192x64_S8192x64_1_0_0_1_n_n none a v)) h

/-- The attended features, entry by entry. -/
theorem attend_is {g : FVec Ideal S1 .f32} {a : FVec Ideal S8192x8192 .f32} {v h : FVec Ideal S8192x64 .f32} {G : ℝ} {A V H}
    (hg : g (ix1 0) = (G : EReal)) (ha : Is2 a A) (hv : Is2 v V) (hh : Is2 h H) :
    Is2 (attend g a v h) (fun i j => G * (∑ k, A i k * V k j) + H i j) := fun i j => by
  pointwise [attend]
  simp only [hg, ha _ _, hv _ _, hh _ _, ← EReal.coe_mul, coe_sum, ← EReal.coe_add]

/-- The pooling scores. -/
def poolScores (t : FVec Ideal S8192x64 .f32) (w : FVec Ideal S64x1 .f32) (b : FVec Ideal S1 .f32) : FVec Ideal S8192 .f32 :=
  shapeCast _ (addf (Host.dotGeneral dot_S8192x64_S64x1_S8192x1_1_0_0_1_n_n none (Host.tanh t) w) (broadcastInDim S8192x1 ![0, 1] bcast_S1x1_S8192x1_0_1 (broadcastInDim S1x1 ![1] bcast_S1_S1x1_1 b))) shapeCasts_S8192x1_S8192

/-- The pooling scores, entry by entry. -/
theorem poolScores_is {t : FVec Ideal S8192x64 .f32} {w : FVec Ideal S64x1 .f32} {b : FVec Ideal S1 .f32} {T} {W : Fin 64 → ℝ} {B : ℝ}
    (ht : Is2 t T) (hw : ∀ l, w (ix2 l 0) = (W l : EReal)) (hb : b (ix1 0) = (B : EReal)) :
    Is1 (poolScores t w b) (fun i => (∑ l, Real.tanh (T i l) * W l) + B) := fun i => by
  pointwise [poolScores]
  simp only [ht _ _, hw _, hb, Ideal.tanh_coe, ← EReal.coe_mul, coe_sum, ← EReal.coe_add]

/-- Exponentials of the pooling scores, the largest taken off first. -/
def expPool (x : FVec Ideal S8192 .f32) : FVec Ideal S8192 .f32 := (Host.exp (subf x (broadcastInDim S8192 ![0] bcast_S1_S8192_0 (broadcastInDim S1 ![] bcast_S_S1 (maximumf (constant S_ .f32 0xFF800000#32) (Host.reduce FloatOps.maximumf x (constant S_ .f32 0xFF800000#32) reducesTo_S8192_S_d0 h_S_))))))

/-- For real scores the entries are real exponentials, shifted by one real. -/
theorem expPool_is {x : FVec Ideal S8192 .f32} {X} (hx : Is1 x X) :
    ∃ c : ℝ, Is1 (expPool x) (fun i => Real.exp (X i - c)) := by
  obtain ⟨c, hc⟩ := fold_max_coe X
  refine ⟨c, fun i => ?_⟩
  pointwise [expPool]
  simp only [hx _, ofBits_bot, hc, max_bot_left, ← EReal.coe_sub, Ideal.exp_coe]

/-- The pooled features. -/
def pool (e : FVec Ideal S8192 .f32) (h : FVec Ideal S8192x64 .f32) : FVec Ideal S64 .f32 :=
  Host.dotGeneral dot_S8192_S8192x64_S64_0_0_n_1_n_n none (Host.divf e (broadcastInDim S8192 ![0] bcast_S1_S8192_0 (broadcastInDim S1 ![] bcast_S_S1 (Host.reduceAdd e (constant S_ .f32 0x00000000#32) reducesTo_S8192_S_d0 h_S_)))) h

/-- The pooled features are a mean weighted by exponentials. -/
theorem pool_is {e : FVec Ideal S8192 .f32} {h : FVec Ideal S8192x64 .f32} {X : Fin 8192 → ℝ} {H}
    (he : Is1 e (fun i => Real.exp (X i))) (hh : Is2 h H) :
    Is1 (pool e h) (fun j => mean X (fun i => H i j)) := fun j => by
  show _ = ((mean X (fun i => H i j) : ℝ) : EReal)
  rw [← mean_normalised]
  pointwise [pool]
  simp only [he _, hh _ _, coe_sum, zero_add, coe_div (sum_exp_pos X).ne', ← EReal.coe_mul]

/-- The clipped probability. -/
def prob (M : FVec Ideal S64 .f32) (w : FVec Ideal S64x1 .f32) (b : FVec Ideal S1 .f32) : FVec Ideal S_ .f32 :=
  minimumf (id (constant S_ .f32 0x3F7FFF58#32)) (maximumf (id (constant S_ .f32 0x3727C5AC#32)) (shapeCast _ (Host.divf (broadcastInDim S1 ![] bcast_S_S1 (constant S_ .f32 0x3F800000#32)) (addf (broadcastInDim S1 ![] bcast_S_S1 (constant S_ .f32 0x3F800000#32)) (Host.exp (Host.negf (addf (Host.dotGeneral dot_S64_S64x1_S1_0_0_n_1_n_n none M w) b))))) shapeCasts_S1_S_))

/-- The clipped probability, as the model writes it. -/
theorem prob_is {M : FVec Ideal S64 .f32} {w : FVec Ideal S64x1 .f32} {b : FVec Ideal S1 .f32} {X} {W : Fin 64 → ℝ} {B : ℝ}
    (hM : Is1 M X) (hw : ∀ l, w (ix2 l 0) = (W l : EReal)) (hb : b (ix1 0) = (B : EReal)) (i : S_.Idx) :
    prob M w b i = min (Ideal.ofBits .f32 0x3F7FFF58#32) (max (Ideal.ofBits .f32 0x3727C5AC#32)
      (((1 + Real.exp (-((∑ j, X j * W j) + B)))⁻¹ : ℝ) : EReal)) := by
  pointwise [prob]
  simp only [id_eq, constant_apply, hM _, hw _, hb, ← EReal.coe_mul, coe_sum, ← EReal.coe_add, ← EReal.coe_neg, Ideal.exp_coe, ← EReal.coe_one,
    Ideal.ofBits_one_f32, coe_div (show (1 + Real.exp (-((∑ j, X j * W j) + B))) ≠ 0 from by positivity), one_div]
  rfl

end Cert.ReferenceIdeal.Hand

end
-- ==== Proof.RefVal.lean ====
/-
  The reference's two results are the model's, for arguments that are real numbers.
-/
module

public import proofs.«01_k».proof.Proof.Args
public import proofs.«01_k».proof.Proof.RefStages

@[expose] public section

set_option maxRecDepth 16384

noncomputable section

namespace Cert.ReferenceIdeal.Hand

open Cert.ReferenceIdeal Cert.ReferenceIdeal.Gen Cert.ReferenceIdeal.Value Cert.Model
open Idealize.ShloMosaic Idealize.ShloMosaic.TcCoe

/-- The features. -/
def feats (A : Args) : FVec Ideal S8192x64 .f32 := layer3 (layer2 (layer1 A.a0 A.a1 A.a2) A.a3 A.a4) A.a5 A.a6
/-- The attention scores. -/
def attScores (A : Args) : FVec Ideal S8192x8192 .f32 := scores (proj8 (feats A) A.a7 A.a8) (proj8 (feats A) A.a9 A.a10)
/-- The attended features. -/
def attended (A : Args) : FVec Ideal S8192x64 .f32 :=
  attend A.a13 (softRows (expRows (attScores A) (rowMax (attScores A)))) (proj64 (feats A) A.a11 A.a12) (feats A)
/-- The pooled features. -/
def pooled (A : Args) : FVec Ideal S64 .f32 :=
  pool (expPool (poolScores (proj64 (attended A) A.a14 A.a15) A.a16 A.a17)) (attended A)

/-- The features are the model's. -/
theorem feats_is {A : Args} {p : Par} (h : A.Is p) : Is2 (feats A) p.h :=
  layer3_is (layer2_is (layer1_is h.x h.w1 h.b1) h.w2 h.b2) h.w3 h.b3

/-- The attention scores are the model's. -/
theorem attScores_is {A : Args} {p : Par} (h : A.Is p) : Is2 (attScores A) p.s :=
  scores_is (proj8_is (feats_is h) h.wq h.bq) (proj8_is (feats_is h) h.wk h.bk)

/-- The attended features are the model's. -/
theorem attended_is {A : Args} {p : Par} (h : A.Is p) : Is2 (attended A) p.h2 := by
  obtain ⟨c, hc⟩ := rowMax_is (attScores_is h)
  have := attend_is h.g (softRows_is (expRows_is (attScores_is h) hc)) (proj64_is (feats_is h) h.wv h.bv) (feats_is h)
  intro i j
  exact (this i j).trans (congrArg (fun r : ℝ => ((p.g * r + p.h i j : ℝ) : EReal))
    ((mean_normalised (fun k => p.s i k - c i) (fun k => lin p.h p.wv p.bv k j)).trans (mean_shift (p.s i) _ (c i))))

/-- The pooled features are the model's. -/
theorem pooled_is {A : Args} {p : Par} (h : A.Is p) : Is1 (pooled A) p.M := by
  obtain ⟨c, hc⟩ := expPool_is (poolScores_is (proj64_is (attended_is h) h.wa1 h.ba1) h.wa2 h.ba2)
  intro j
  exact (pool_is hc (attended_is h) j).trans (congrArg _ (mean_shift p.sc (fun i => p.h2 i j) c))

/-- The clipped probability is the model's. -/
theorem prob_is' {A : Args} {p : Par} (h : A.Is p) (i : S_.Idx) : prob (pooled A) A.a18 A.a19 i = p.Y :=
  prob_is (pooled_is h) h.wc h.bc i

/-- The reference's arguments. -/
def args (m : (ℓ : Loc nD τ sig) → Buf (Elt Ideal) ℓ) (c : Dev nD) : Args :=
  { a0 := m ((c.tc : Thread nD τ).loc main_arg0), a1 := m ((c.tc : Thread nD τ).loc main_arg1)
    a2 := m ((c.tc : Thread nD τ).loc main_arg2), a3 := m ((c.tc : Thread nD τ).loc main_arg3)
    a4 := m ((c.tc : Thread nD τ).loc main_arg4), a5 := m ((c.tc : Thread nD τ).loc main_arg5)
    a6 := m ((c.tc : Thread nD τ).loc main_arg6), a7 := m ((c.tc : Thread nD τ).loc main_arg7)
    a8 := m ((c.tc : Thread nD τ).loc main_arg8), a9 := m ((c.tc : Thread nD τ).loc main_arg9)
    a10 := m ((c.tc : Thread nD τ).loc main_arg10), a11 := m ((c.tc : Thread nD τ).loc main_arg11)
    a12 := m ((c.tc : Thread nD τ).loc main_arg12), a13 := m ((c.tc : Thread nD τ).loc main_arg13)
    a14 := m ((c.tc : Thread nD τ).loc main_arg14), a15 := m ((c.tc : Thread nD τ).loc main_arg15)
    a16 := m ((c.tc : Thread nD τ).loc main_arg16), a17 := m ((c.tc : Thread nD τ).loc main_arg17)
    a18 := m ((c.tc : Thread nD τ).loc main_arg18), a19 := m ((c.tc : Thread nD τ).loc main_arg19) }

/-- The second result, in the stages above. -/
theorem res_out1_eq (m : (ℓ : Loc nD τ sig) → Buf (Elt Ideal) ℓ) (c : Dev nD) : res_out1 m c = pooled (args m c) := rfl

/-- The first result, in the stages above. -/
theorem res_out0_eq (m : (ℓ : Loc nD τ sig) → Buf (Elt Ideal) ℓ) (c : Dev nD) :
    res_out0 m c = prob (pooled (args m c)) (args m c).a18 (args m c).a19 := rfl

/-- The reference's pooled features, entry by entry. -/
theorem out1_is {m : (ℓ : Loc nD τ sig) → Buf (Elt Ideal) ℓ} {c : Dev nD} {p : Par} (h : (args m c).Is p) (j : Fin 64) :
    (res_out1 m c : FVec Ideal S64 .f32) (ix1 j) = ((p.M j : ℝ) : EReal) := by
  rw [res_out1_eq]
  exact pooled_is h j

/-- The reference's clipped probability. -/
theorem out0_is {m : (ℓ : Loc nD τ sig) → Buf (Elt Ideal) ℓ} {c : Dev nD} {p : Par} (h : (args m c).Is p) (i : S_.Idx) :
    (res_out0 m c : FVec Ideal S_ .f32) i = p.Y := by
  rw [res_out0_eq]
  exact prob_is' h i

end Cert.ReferenceIdeal.Hand

end
-- ==== Proof.Algebraic.lean ====
/-
  Kernel and reference return the same two values over the extended reals, for finite arguments.
-/
module

public import proofs.«01_k».proof.Defs
public import proofs.«01_k».proof.Proof.Finite
public import proofs.«01_k».proof.Proof.Result
public import proofs.«01_k».proof.Proof.RefVal
public import proofs.«01_k».proof.Proof.Gen.ReferenceIdeal.Run
public import proofs.«01_k».proof.Proof.Gen.Pre_finite

@[expose] public section

noncomputable section

namespace Cert.Proof

open Idealize.ShloMosaic Idealize.SL.Sem Cert.Model

/-- The arguments are real numbers where the precondition holds. -/
theorem args_finite {m : (ℓ : Loc Cert.KernelIdeal.nD Cert.KernelIdeal.τ Cert.KernelIdeal.sig) → Buf (Elt Ideal) ℓ}
    (h : Cert.Pre_KernelIdeal_finite m) (c : Dev Cert.KernelIdeal.nD) : (Cert.KernelIdeal.Hand.args m c).Finite :=
  finite_args _ (h c)

/-- Run from equal finite arguments, the two programs end with the same probability and the same pooled features, and leave
    their arguments as they were. -/
theorem algebraic : Cert.algebraic_KernelIdeal_ReferenceIdeal_pre_finite := by
  intro m g m' g' hpre hagree
  have hk : ∀ c, (Cert.KernelIdeal.Hand.args m c).Is (Cert.KernelIdeal.Hand.args m c).par := fun c => Args.is_par (args_finite hpre c)
  have hr : ∀ c, (Cert.ReferenceIdeal.Hand.args m' c).Is (Cert.KernelIdeal.Hand.args m c).par := fun c => by
    have e : Cert.ReferenceIdeal.Hand.args m' c = Cert.KernelIdeal.Hand.args m c := by
      obtain ⟨h0, h1, h2, h3, h4, h5, h6, h7, h8, h9, h10, h11, h12, h13, h14, h15, h16, h17, h18, h19⟩ := hagree c
      unfold Cert.ReferenceIdeal.Hand.args Cert.KernelIdeal.Hand.args
      simp only [h0, h1, h2, h3, h4, h5, h6, h7, h8, h9, h10, h11, h12, h13, h14, h15, h16, h17, h18, h19]
    rw [e]
    exact hk c
  refine ⟨fun c _ => (Cert.KernelIdeal.Hand.args m c).par.Y, fun c i => (((Cert.KernelIdeal.Hand.args m c).par.M (i 0) : ℝ) : EReal), ?_, ?_⟩
  · refine (θ_run Cert.KernelIdeal.defs _ _).mono (fun r h c => ⟨(h.1 c).1, (h.1 c).2, h.2 c⟩) (θ_run_and (Cert.KernelIdeal.Hand.results m g hk)
      (Cert.KernelIdeal.Gen.frame_of m g (Cert.KernelIdeal.Hand.dats m) (Cert.KernelIdeal.Hand.A_eq m)
        ((θ_run Cert.KernelIdeal.defs _ _).mono (fun _ h => h.1) (Cert.KernelIdeal.Hand.run_main m g))))
  · refine (θ_run Cert.ReferenceIdeal.defs _ _).mono (fun r h c => ⟨(h c).1.trans (funext fun i => ?_), (h c).2.1.trans (funext fun i => ?_), (h c).2.2⟩)
      (Cert.ReferenceIdeal.Value.run (F := Ideal) m' g')
    · exact Cert.ReferenceIdeal.Hand.out0_is (hr c) i
    · obtain ⟨j, rfl⟩ : ∃ j : Fin 64, i = ix1 j := ⟨i 0, eq_ix1 (n0 := 64) i⟩
      exact Cert.ReferenceIdeal.Hand.out1_is (hr c) j

end Cert.Proof

end
-- ==== Proof.lean ====
/-
  The certificate: the claims of Defs.lean put together from the modules under Proof/.
-/
module

public import proofs.«01_k».proof.Defs
public import proofs.«01_k».proof.Proof.Frames
public import proofs.«01_k».proof.Proof.Algebraic
public import proofs.«01_k».proof.Proof.Gen.Pre_finite

@[expose] public section

noncomputable section

namespace Cert.Proof

/-- Every claim: the three frames (two of them also under the precondition), the ledger of the named constant, and the equality of
    the kernel's and the reference's results. -/
theorem claim : Cert.Claim := ⟨Cert.Kernel.Gen.facts, Cert.KernelIdeal.Gen.facts, Cert.ReferenceIdeal.Gen.facts, Cert.Pre_finite.Gen.facts,
  frame_p, frame_pi, fun m ρ _ => frame_pi m ρ trivial, frame_ri, fun m ρ _ => frame_ri m ρ trivial, preserves, algebraic⟩

end Cert.Proof

end
